-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S6x3 : Shape := ⟨2, ![6, 3]⟩
abbrev S6x5 : Shape := ⟨2, ![6, 5]⟩
abbrev S_ : Shape := ⟨0, ![]⟩
abbrev S1x1 : Shape := ⟨2, ![1, 1]⟩
abbrev S352x1024 : Shape := ⟨2, ![352, 1024]⟩
abbrev S320x1024 : Shape := ⟨2, ![320, 1024]⟩
abbrev S176x1024 : Shape := ⟨2, ![176, 1024]⟩
abbrev S160x1024 : Shape := ⟨2, ![160, 1024]⟩
abbrev S88x1024 : Shape := ⟨2, ![88, 1024]⟩
abbrev S80x1024 : Shape := ⟨2, ![80, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 2 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_7 : BitVec 32 := 1#32
  let v14 : BitVec 32 := Scalar.muli v3 c1_i32_7
  let v15 : BitVec 32 := Scalar.addi c0_i32 v14
  v15.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_9 : BitVec 32 := 1#32
  let v16 : BitVec 32 := Scalar.muli v4 c1_i32_9
  let v17 : BitVec 32 := Scalar.addi c0_i32_10 v16
  v17.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_12 : BitVec 32 := 1#32
  let v18 : BitVec 32 := Scalar.muli v5 c1_i32_12
  let v19 : BitVec 32 := Scalar.addi c0_i32_13 v18
  v19.toNat
def k0_off1 (d0 : Dev nD) (c0_i32_16 : BitVec 32) : Fin 2 → Nat :=
  let c1_i32_15 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v20 : BitVec 32 := Scalar.subi c1_i32_15 v8
  let c352_i32 : BitVec 32 := 352#32
  let v21 : BitVec 32 := Scalar.muli v20 c352_i32
  let v22 : BitVec 32 := Scalar.addi c0_i32_16 v21
  let c0_i32_25 : BitVec 32 := 0#32
  ![v22.toNat, 0]
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_21 : BitVec 32 := 1#32
  let v23 : BitVec 32 := Scalar.muli v3 c1_i32_21
  let v24 : BitVec 32 := Scalar.addi c0_i32_22 v23
  v24.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_32 : BitVec 32 := 1#32
  let v34 : BitVec 32 := Scalar.muli v3 c1_i32_32
  let v35 : BitVec 32 := Scalar.addi c0_i32_33 v34
  v35.toNat
def k0_off2 (d0 : Dev nD) (c1408_i32 : BitVec 32) (c1_i32_3 : BitVec 32) : Fin 2 → Nat :=
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v9 : BitVec 32 := Scalar.shrsi v2 c1_i32_3
  let c1_i32_4 : BitVec 32 := 1#32
  let v10 : BitVec 32 := Scalar.andi v9 c1_i32_4
  let v42 : BitVec 32 := Scalar.subi c1_i32_37 v10
  let c352_i32_38 : BitVec 32 := 352#32
  let v43 : BitVec 32 := Scalar.muli v42 c352_i32_38
  let v44 : BitVec 32 := Scalar.addi c1408_i32 v43
  let c0_i32_47 : BitVec 32 := 0#32
  ![v44.toNat, 0]
def k0_off2_at (r : Fin 2) : BitVec 32 × BitVec 32 :=
  if r.val < 1 then
    (1408#32, 1#32)
  else
    (2752#32, 2#32)
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_43 : BitVec 32 := 1#32
  let v45 : BitVec 32 := Scalar.muli v4 c1_i32_43
  let v46 : BitVec 32 := Scalar.addi c0_i32_44 v45
  v46.toNat
def k0_off3 (d0 : Dev nD) (c2112_i32 : BitVec 32) (c1_i32_3 : BitVec 32) : Fin 2 → Nat :=
  let c1_i32_48 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v9 : BitVec 32 := Scalar.shrsi v2 c1_i32_3
  let c1_i32_4 : BitVec 32 := 1#32
  let v10 : BitVec 32 := Scalar.andi v9 c1_i32_4
  let v53 : BitVec 32 := Scalar.subi c1_i32_48 v10
  let c320_i32 : BitVec 32 := 320#32
  let v54 : BitVec 32 := Scalar.muli v53 c320_i32
  let v55 : BitVec 32 := Scalar.addi c2112_i32 v54
  let c0_i32_57 : BitVec 32 := 0#32
  ![v55.toNat, 0]
def k0_off3_at (r : Fin 2) : BitVec 32 × BitVec 32 :=
  if r.val < 1 then
    (2112#32, 1#32)
  else
    (3456#32, 2#32)
def k0_dev7 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_53 : BitVec 32 := 1#32
  let v56 : BitVec 32 := Scalar.muli v4 c1_i32_53
  let v57 : BitVec 32 := Scalar.addi c0_i32_54 v56
  v57.toNat
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_64 : BitVec 32 := 1#32
  let v67 : BitVec 32 := Scalar.muli v5 c1_i32_64
  let v68 : BitVec 32 := Scalar.addi c0_i32_65 v67
  v68.toNat
def k0_dev9 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_74 : BitVec 32 := 1#32
  let v78 : BitVec 32 := Scalar.muli v5 c1_i32_74
  let v79 : BitVec 32 := Scalar.addi c0_i32_75 v78
  v79.toNat
def k0_off4 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_98 : BitVec 32 := 1#32
  let c1_i32_3 : BitVec 32 := 1#32
  let v9 : BitVec 32 := Scalar.shrsi v2 c1_i32_3
  let c1_i32_4 : BitVec 32 := 1#32
  let v10 : BitVec 32 := Scalar.andi v9 c1_i32_4
  let v98 : BitVec 32 := Scalar.subi c1_i32_98 v10
  let c176_i32 : BitVec 32 := 176#32
  let v99 : BitVec 32 := Scalar.muli v98 c176_i32
  let v100 : BitVec 32 := Scalar.addi v97 v99
  let v101 : Index := Scalar.indexCast v100
  let c0 : Index := 0#32
  ![v101.toNat, 0]
def k0_off5 (d0 : Dev nD) (c0_i32_99 : BitVec 32) (c1_i32_3 : BitVec 32) : Fin 2 → Nat :=
  let c1_i32_98 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v9 : BitVec 32 := Scalar.shrsi v2 c1_i32_3
  let c1_i32_4 : BitVec 32 := 1#32
  let v10 : BitVec 32 := Scalar.andi v9 c1_i32_4
  let v98 : BitVec 32 := Scalar.subi c1_i32_98 v10
  let c176_i32 : BitVec 32 := 176#32
  let v99 : BitVec 32 := Scalar.muli v98 c176_i32
  let v104 : BitVec 32 := Scalar.addi c0_i32_99 v99
  let v105 : Index := Scalar.indexCast v104
  let c0_100 : Index := 0#32
  ![v105.toNat, 0]
def k0_off5_at (r : Fin 3) : BitVec 32 × BitVec 32 :=
  if r.val < 1 then
    (0#32, 1#32)
  else
    if r.val < 2 then
      (1408#32, 2#32)
    else
      (704#32, 1#32)
def k0_off6 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_102 : BitVec 32 := 1#32
  let c1_i32_3 : BitVec 32 := 1#32
  let v9 : BitVec 32 := Scalar.shrsi v2 c1_i32_3
  let c1_i32_4 : BitVec 32 := 1#32
  let v10 : BitVec 32 := Scalar.andi v9 c1_i32_4
  let v110 : BitVec 32 := Scalar.subi c1_i32_102 v10
  let c176_i32_103 : BitVec 32 := 176#32
  let v111 : BitVec 32 := Scalar.muli v110 c176_i32_103
  let v112 : BitVec 32 := Scalar.addi v97 v111
  let c0_i32_112 : BitVec 32 := 0#32
  ![v112.toNat, 0]
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_108 : BitVec 32 := 1#32
  let v113 : BitVec 32 := Scalar.muli v4 c1_i32_108
  let v114 : BitVec 32 := Scalar.addi c0_i32_109 v113
  v114.toNat
def k0_off7 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c176_i32_113 : BitVec 32 := 176#32
  let c1_i32_98 : BitVec 32 := 1#32
  let c1_i32_3 : BitVec 32 := 1#32
  let v9 : BitVec 32 := Scalar.shrsi v2 c1_i32_3
  let c1_i32_4 : BitVec 32 := 1#32
  let v10 : BitVec 32 := Scalar.andi v9 c1_i32_4
  let v98 : BitVec 32 := Scalar.subi c1_i32_98 v10
  let c176_i32 : BitVec 32 := 176#32
  let v99 : BitVec 32 := Scalar.muli v98 c176_i32
  let v121 : BitVec 32 := Scalar.subi c176_i32_113 v99
  let v122 : BitVec 32 := Scalar.addi v97 v121
  let v123 : Index := Scalar.indexCast v122
  let c0_114 : Index := 0#32
  ![v123.toNat, 0]
def k0_off8 (d0 : Dev nD) (c0_i32_115 : BitVec 32) (c1_i32_3 : BitVec 32) : Fin 2 → Nat :=
  let c176_i32_113 : BitVec 32 := 176#32
  let c1_i32_98 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v9 : BitVec 32 := Scalar.shrsi v2 c1_i32_3
  let c1_i32_4 : BitVec 32 := 1#32
  let v10 : BitVec 32 := Scalar.andi v9 c1_i32_4
  let v98 : BitVec 32 := Scalar.subi c1_i32_98 v10
  let c176_i32 : BitVec 32 := 176#32
  let v99 : BitVec 32 := Scalar.muli v98 c176_i32
  let v121 : BitVec 32 := Scalar.subi c176_i32_113 v99
  let v126 : BitVec 32 := Scalar.addi c0_i32_115 v121
  let v127 : Index := Scalar.indexCast v126
  let c0_116 : Index := 0#32
  ![v127.toNat, 0]
def k0_off8_at (r : Fin 3) : BitVec 32 × BitVec 32 :=
  if r.val < 1 then
    (0#32, 1#32)
  else
    if r.val < 2 then
      (1408#32, 2#32)
    else
      (704#32, 1#32)
def k0_off9 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c1_i32_137 : BitVec 32 := 1#32
  let c2_i32 : BitVec 32 := 2#32
  let v11 : BitVec 32 := Scalar.shrsi v2 c2_i32
  let c1_i32_5 : BitVec 32 := 1#32
  let v12 : BitVec 32 := Scalar.andi v11 c1_i32_5
  let v144 : BitVec 32 := Scalar.subi c1_i32_137 v12
  let c176_i32_138 : BitVec 32 := 176#32
  let v145 : BitVec 32 := Scalar.muli v144 c176_i32_138
  let v146 : BitVec 32 := Scalar.addi v143 v145
  let v147 : Index := Scalar.indexCast v146
  let c0_139 : Index := 0#32
  ![v147.toNat, 0]
def k0_off10 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c1_i32_143 : BitVec 32 := 1#32
  let c2_i32 : BitVec 32 := 2#32
  let v11 : BitVec 32 := Scalar.shrsi v2 c2_i32
  let c1_i32_5 : BitVec 32 := 1#32
  let v12 : BitVec 32 := Scalar.andi v11 c1_i32_5
  let v156 : BitVec 32 := Scalar.subi c1_i32_143 v12
  let c176_i32_144 : BitVec 32 := 176#32
  let v157 : BitVec 32 := Scalar.muli v156 c176_i32_144
  let v158 : BitVec 32 := Scalar.addi v143 v157
  let c0_i32_152 : BitVec 32 := 0#32
  ![v158.toNat, 0]
def k0_dev11 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_149 : BitVec 32 := 1#32
  let v159 : BitVec 32 := Scalar.muli v5 c1_i32_149
  let v160 : BitVec 32 := Scalar.addi c0_i32_150 v159
  v160.toNat
def k0_off11 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c176_i32_153 : BitVec 32 := 176#32
  let c1_i32_137 : BitVec 32 := 1#32
  let c2_i32 : BitVec 32 := 2#32
  let v11 : BitVec 32 := Scalar.shrsi v2 c2_i32
  let c1_i32_5 : BitVec 32 := 1#32
  let v12 : BitVec 32 := Scalar.andi v11 c1_i32_5
  let v144 : BitVec 32 := Scalar.subi c1_i32_137 v12
  let c176_i32_138 : BitVec 32 := 176#32
  let v145 : BitVec 32 := Scalar.muli v144 c176_i32_138
  let v167 : BitVec 32 := Scalar.subi c176_i32_153 v145
  let v168 : BitVec 32 := Scalar.addi v143 v167
  let v169 : Index := Scalar.indexCast v168
  let c0_154 : Index := 0#32
  ![v169.toNat, 0]
def k0_off12 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_177 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v190 : BitVec 32 := Scalar.subi c1_i32_177 v8
  let c176_i32_178 : BitVec 32 := 176#32
  let v191 : BitVec 32 := Scalar.muli v190 c176_i32_178
  let v192 : BitVec 32 := Scalar.addi v189 v191
  let v193 : Index := Scalar.indexCast v192
  let c0_179 : Index := 0#32
  ![v193.toNat, 0]
def k0_off13 (d0 : Dev nD) : Fin 2 → Nat :=
  let c2752_i32_180 : BitVec 32 := 2752#32
  let c1_i32_177 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v190 : BitVec 32 := Scalar.subi c1_i32_177 v8
  let c176_i32_178 : BitVec 32 := 176#32
  let v191 : BitVec 32 := Scalar.muli v190 c176_i32_178
  let v196 : BitVec 32 := Scalar.addi c2752_i32_180 v191
  let v197 : Index := Scalar.indexCast v196
  let c0_181 : Index := 0#32
  ![v197.toNat, 0]
def k0_off14 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_183 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v202 : BitVec 32 := Scalar.subi c1_i32_183 v8
  let c176_i32_184 : BitVec 32 := 176#32
  let v203 : BitVec 32 := Scalar.muli v202 c176_i32_184
  let v204 : BitVec 32 := Scalar.addi v189 v203
  let c0_i32_192 : BitVec 32 := 0#32
  ![v204.toNat, 0]
def k0_dev12 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_189 : BitVec 32 := 1#32
  let v205 : BitVec 32 := Scalar.muli v3 c1_i32_189
  let v206 : BitVec 32 := Scalar.addi c0_i32_190 v205
  v206.toNat
def k0_off15 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c176_i32_193 : BitVec 32 := 176#32
  let c1_i32_177 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v190 : BitVec 32 := Scalar.subi c1_i32_177 v8
  let c176_i32_178 : BitVec 32 := 176#32
  let v191 : BitVec 32 := Scalar.muli v190 c176_i32_178
  let v213 : BitVec 32 := Scalar.subi c176_i32_193 v191
  let v214 : BitVec 32 := Scalar.addi v189 v213
  let v215 : Index := Scalar.indexCast v214
  let c0_194 : Index := 0#32
  ![v215.toNat, 0]
def k0_off16 (d0 : Dev nD) : Fin 2 → Nat :=
  let c2752_i32_195 : BitVec 32 := 2752#32
  let c176_i32_193 : BitVec 32 := 176#32
  let c1_i32_177 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v190 : BitVec 32 := Scalar.subi c1_i32_177 v8
  let c176_i32_178 : BitVec 32 := 176#32
  let v191 : BitVec 32 := Scalar.muli v190 c176_i32_178
  let v213 : BitVec 32 := Scalar.subi c176_i32_193 v191
  let v218 : BitVec 32 := Scalar.addi c2752_i32_195 v213
  let v219 : Index := Scalar.indexCast v218
  let c0_196 : Index := 0#32
  ![v219.toNat, 0]
def k0_dev13 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_229 : BitVec 32 := 1#32
  let v251 : BitVec 32 := Scalar.muli v4 c1_i32_229
  let v252 : BitVec 32 := Scalar.addi c0_i32_230 v251
  v252.toNat
def k0_off17 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c1_i32_257 : BitVec 32 := 1#32
  let c2_i32 : BitVec 32 := 2#32
  let v11 : BitVec 32 := Scalar.shrsi v2 c2_i32
  let c1_i32_5 : BitVec 32 := 1#32
  let v12 : BitVec 32 := Scalar.andi v11 c1_i32_5
  let v282 : BitVec 32 := Scalar.subi c1_i32_257 v12
  let c160_i32 : BitVec 32 := 160#32
  let v283 : BitVec 32 := Scalar.muli v282 c160_i32
  let v284 : BitVec 32 := Scalar.addi v281 v283
  let v285 : Index := Scalar.indexCast v284
  let c0_258 : Index := 0#32
  ![v285.toNat, 0]
def k0_off18 (d0 : Dev nD) : Fin 2 → Nat :=
  let c2112_i32_259 : BitVec 32 := 2112#32
  let c1_i32_257 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let v282 : BitVec 32 := Scalar.subi c1_i32_257 v12
  let c160_i32 : BitVec 32 := 160#32
  let v283 : BitVec 32 := Scalar.muli v282 c160_i32
  let v288 : BitVec 32 := Scalar.addi c2112_i32_259 v283
  let v289 : Index := Scalar.indexCast v288
  let c0_260 : Index := 0#32
  ![v289.toNat, 0]
def k0_off19 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c1_i32_262 : BitVec 32 := 1#32
  let c2_i32 : BitVec 32 := 2#32
  let v11 : BitVec 32 := Scalar.shrsi v2 c2_i32
  let c1_i32_5 : BitVec 32 := 1#32
  let v12 : BitVec 32 := Scalar.andi v11 c1_i32_5
  let v294 : BitVec 32 := Scalar.subi c1_i32_262 v12
  let c160_i32_263 : BitVec 32 := 160#32
  let v295 : BitVec 32 := Scalar.muli v294 c160_i32_263
  let v296 : BitVec 32 := Scalar.addi v281 v295
  let c0_i32_271 : BitVec 32 := 0#32
  ![v296.toNat, 0]
def k0_dev14 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_268 : BitVec 32 := 1#32
  let v297 : BitVec 32 := Scalar.muli v5 c1_i32_268
  let v298 : BitVec 32 := Scalar.addi c0_i32_269 v297
  v298.toNat
def k0_off20 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c160_i32_272 : BitVec 32 := 160#32
  let c1_i32_257 : BitVec 32 := 1#32
  let c2_i32 : BitVec 32 := 2#32
  let v11 : BitVec 32 := Scalar.shrsi v2 c2_i32
  let c1_i32_5 : BitVec 32 := 1#32
  let v12 : BitVec 32 := Scalar.andi v11 c1_i32_5
  let v282 : BitVec 32 := Scalar.subi c1_i32_257 v12
  let c160_i32 : BitVec 32 := 160#32
  let v283 : BitVec 32 := Scalar.muli v282 c160_i32
  let v305 : BitVec 32 := Scalar.subi c160_i32_272 v283
  let v306 : BitVec 32 := Scalar.addi v281 v305
  let v307 : Index := Scalar.indexCast v306
  let c0_273 : Index := 0#32
  ![v307.toNat, 0]
def k0_off21 (d0 : Dev nD) : Fin 2 → Nat :=
  let c2112_i32_274 : BitVec 32 := 2112#32
  let c160_i32_272 : BitVec 32 := 160#32
  let c1_i32_257 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let v282 : BitVec 32 := Scalar.subi c1_i32_257 v12
  let c160_i32 : BitVec 32 := 160#32
  let v283 : BitVec 32 := Scalar.muli v282 c160_i32
  let v305 : BitVec 32 := Scalar.subi c160_i32_272 v283
  let v310 : BitVec 32 := Scalar.addi c2112_i32_274 v305
  let v311 : Index := Scalar.indexCast v310
  let c0_275 : Index := 0#32
  ![v311.toNat, 0]
def k0_off22 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_296 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v328 : BitVec 32 := Scalar.subi c1_i32_296 v8
  let c160_i32_297 : BitVec 32 := 160#32
  let v329 : BitVec 32 := Scalar.muli v328 c160_i32_297
  let v330 : BitVec 32 := Scalar.addi v327 v329
  let v331 : Index := Scalar.indexCast v330
  let c0_298 : Index := 0#32
  ![v331.toNat, 0]
def k0_off23 (d0 : Dev nD) : Fin 2 → Nat :=
  let c3456_i32_299 : BitVec 32 := 3456#32
  let c1_i32_296 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v328 : BitVec 32 := Scalar.subi c1_i32_296 v8
  let c160_i32_297 : BitVec 32 := 160#32
  let v329 : BitVec 32 := Scalar.muli v328 c160_i32_297
  let v334 : BitVec 32 := Scalar.addi c3456_i32_299 v329
  let v335 : Index := Scalar.indexCast v334
  let c0_300 : Index := 0#32
  ![v335.toNat, 0]
def k0_off24 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_302 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v340 : BitVec 32 := Scalar.subi c1_i32_302 v8
  let c160_i32_303 : BitVec 32 := 160#32
  let v341 : BitVec 32 := Scalar.muli v340 c160_i32_303
  let v342 : BitVec 32 := Scalar.addi v327 v341
  let c0_i32_311 : BitVec 32 := 0#32
  ![v342.toNat, 0]
def k0_dev15 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_308 : BitVec 32 := 1#32
  let v343 : BitVec 32 := Scalar.muli v3 c1_i32_308
  let v344 : BitVec 32 := Scalar.addi c0_i32_309 v343
  v344.toNat
def k0_off25 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c160_i32_312 : BitVec 32 := 160#32
  let c1_i32_296 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v328 : BitVec 32 := Scalar.subi c1_i32_296 v8
  let c160_i32_297 : BitVec 32 := 160#32
  let v329 : BitVec 32 := Scalar.muli v328 c160_i32_297
  let v351 : BitVec 32 := Scalar.subi c160_i32_312 v329
  let v352 : BitVec 32 := Scalar.addi v327 v351
  let v353 : Index := Scalar.indexCast v352
  let c0_313 : Index := 0#32
  ![v353.toNat, 0]
def k0_off26 (d0 : Dev nD) : Fin 2 → Nat :=
  let c3456_i32_314 : BitVec 32 := 3456#32
  let c160_i32_312 : BitVec 32 := 160#32
  let c1_i32_296 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v328 : BitVec 32 := Scalar.subi c1_i32_296 v8
  let c160_i32_297 : BitVec 32 := 160#32
  let v329 : BitVec 32 := Scalar.muli v328 c160_i32_297
  let v351 : BitVec 32 := Scalar.subi c160_i32_312 v329
  let v356 : BitVec 32 := Scalar.addi c3456_i32_314 v351
  let v357 : Index := Scalar.indexCast v356
  let c0_315 : Index := 0#32
  ![v357.toNat, 0]
def k0_off27 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_3 : BitVec 32 := 1#32
  let v9 : BitVec 32 := Scalar.shrsi v2 c1_i32_3
  let c1_i32_4 : BitVec 32 := 1#32
  let v10 : BitVec 32 := Scalar.andi v9 c1_i32_4
  let c176_i32_334 : BitVec 32 := 176#32
  let v372 : BitVec 32 := Scalar.muli v10 c176_i32_334
  let v373 : BitVec 32 := Scalar.addi v97 v372
  let c1_i32_335 : BitVec 32 := 1#32
  let c2_i32 : BitVec 32 := 2#32
  let v11 : BitVec 32 := Scalar.shrsi v2 c2_i32
  let c1_i32_5 : BitVec 32 := 1#32
  let v12 : BitVec 32 := Scalar.andi v11 c1_i32_5
  let v374 : BitVec 32 := Scalar.subi c1_i32_335 v12
  let c88_i32 : BitVec 32 := 88#32
  let v375 : BitVec 32 := Scalar.muli v374 c88_i32
  let v376 : BitVec 32 := Scalar.addi v373 v375
  let v377 : Index := Scalar.indexCast v376
  let c0_336 : Index := 0#32
  ![v377.toNat, 0]
def k0_off28 (d0 : Dev nD) (c352_i32_337 : BitVec 32) (c2_i32 : BitVec 32) : Fin 2 → Nat :=
  let c1_i32_335 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v11 : BitVec 32 := Scalar.shrsi v2 c2_i32
  let c1_i32_5 : BitVec 32 := 1#32
  let v12 : BitVec 32 := Scalar.andi v11 c1_i32_5
  let v374 : BitVec 32 := Scalar.subi c1_i32_335 v12
  let c88_i32 : BitVec 32 := 88#32
  let v375 : BitVec 32 := Scalar.muli v374 c88_i32
  let v380 : BitVec 32 := Scalar.addi c352_i32_337 v375
  let v381 : Index := Scalar.indexCast v380
  let c0_338 : Index := 0#32
  ![v381.toNat, 0]
def k0_off28_at (r : Fin 3) : BitVec 32 × BitVec 32 :=
  if r.val < 1 then
    (352#32, 2#32)
  else
    if r.val < 2 then
      (3104#32, 1#32)
    else
      (1056#32, 2#32)
def k0_off29 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_3 : BitVec 32 := 1#32
  let v9 : BitVec 32 := Scalar.shrsi v2 c1_i32_3
  let c1_i32_4 : BitVec 32 := 1#32
  let v10 : BitVec 32 := Scalar.andi v9 c1_i32_4
  let c176_i32_334 : BitVec 32 := 176#32
  let v372 : BitVec 32 := Scalar.muli v10 c176_i32_334
  let v373 : BitVec 32 := Scalar.addi v97 v372
  let c1_i32_340 : BitVec 32 := 1#32
  let c2_i32 : BitVec 32 := 2#32
  let v11 : BitVec 32 := Scalar.shrsi v2 c2_i32
  let c1_i32_5 : BitVec 32 := 1#32
  let v12 : BitVec 32 := Scalar.andi v11 c1_i32_5
  let v386 : BitVec 32 := Scalar.subi c1_i32_340 v12
  let c88_i32_341 : BitVec 32 := 88#32
  let v387 : BitVec 32 := Scalar.muli v386 c88_i32_341
  let v388 : BitVec 32 := Scalar.addi v373 v387
  let c0_i32_349 : BitVec 32 := 0#32
  ![v388.toNat, 0]
def k0_dev16 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_346 : BitVec 32 := 1#32
  let v389 : BitVec 32 := Scalar.muli v5 c1_i32_346
  let v390 : BitVec 32 := Scalar.addi c0_i32_347 v389
  v390.toNat
def k0_off30 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_3 : BitVec 32 := 1#32
  let v9 : BitVec 32 := Scalar.shrsi v2 c1_i32_3
  let c1_i32_4 : BitVec 32 := 1#32
  let v10 : BitVec 32 := Scalar.andi v9 c1_i32_4
  let c176_i32_334 : BitVec 32 := 176#32
  let v372 : BitVec 32 := Scalar.muli v10 c176_i32_334
  let v373 : BitVec 32 := Scalar.addi v97 v372
  let c88_i32_350 : BitVec 32 := 88#32
  let c1_i32_335 : BitVec 32 := 1#32
  let c2_i32 : BitVec 32 := 2#32
  let v11 : BitVec 32 := Scalar.shrsi v2 c2_i32
  let c1_i32_5 : BitVec 32 := 1#32
  let v12 : BitVec 32 := Scalar.andi v11 c1_i32_5
  let v374 : BitVec 32 := Scalar.subi c1_i32_335 v12
  let c88_i32 : BitVec 32 := 88#32
  let v375 : BitVec 32 := Scalar.muli v374 c88_i32
  let v397 : BitVec 32 := Scalar.subi c88_i32_350 v375
  let v398 : BitVec 32 := Scalar.addi v373 v397
  let v399 : Index := Scalar.indexCast v398
  let c0_351 : Index := 0#32
  ![v399.toNat, 0]
def k0_off31 (d0 : Dev nD) (c352_i32_352 : BitVec 32) (c2_i32 : BitVec 32) : Fin 2 → Nat :=
  let c88_i32_350 : BitVec 32 := 88#32
  let c1_i32_335 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v11 : BitVec 32 := Scalar.shrsi v2 c2_i32
  let c1_i32_5 : BitVec 32 := 1#32
  let v12 : BitVec 32 := Scalar.andi v11 c1_i32_5
  let v374 : BitVec 32 := Scalar.subi c1_i32_335 v12
  let c88_i32 : BitVec 32 := 88#32
  let v375 : BitVec 32 := Scalar.muli v374 c88_i32
  let v397 : BitVec 32 := Scalar.subi c88_i32_350 v375
  let v402 : BitVec 32 := Scalar.addi c352_i32_352 v397
  let v403 : Index := Scalar.indexCast v402
  let c0_353 : Index := 0#32
  ![v403.toNat, 0]
def k0_off31_at (r : Fin 3) : BitVec 32 × BitVec 32 :=
  if r.val < 1 then
    (352#32, 2#32)
  else
    if r.val < 2 then
      (3104#32, 1#32)
    else
      (1056#32, 2#32)
def k0_off32 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c2_i32 : BitVec 32 := 2#32
  let v11 : BitVec 32 := Scalar.shrsi v2 c2_i32
  let c1_i32_5 : BitVec 32 := 1#32
  let v12 : BitVec 32 := Scalar.andi v11 c1_i32_5
  let c176_i32_372 : BitVec 32 := 176#32
  let v418 : BitVec 32 := Scalar.muli v12 c176_i32_372
  let v419 : BitVec 32 := Scalar.addi v143 v418
  let c1_i32_373 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v420 : BitVec 32 := Scalar.subi c1_i32_373 v8
  let c88_i32_374 : BitVec 32 := 88#32
  let v421 : BitVec 32 := Scalar.muli v420 c88_i32_374
  let v422 : BitVec 32 := Scalar.addi v419 v421
  let v423 : Index := Scalar.indexCast v422
  let c0_375 : Index := 0#32
  ![v423.toNat, 0]
def k0_off33 (d0 : Dev nD) : Fin 2 → Nat :=
  let c1760_i32_376 : BitVec 32 := 1760#32
  let c1_i32_373 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v420 : BitVec 32 := Scalar.subi c1_i32_373 v8
  let c88_i32_374 : BitVec 32 := 88#32
  let v421 : BitVec 32 := Scalar.muli v420 c88_i32_374
  let v426 : BitVec 32 := Scalar.addi c1760_i32_376 v421
  let v427 : Index := Scalar.indexCast v426
  let c0_377 : Index := 0#32
  ![v427.toNat, 0]
def k0_off34 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c2_i32 : BitVec 32 := 2#32
  let v11 : BitVec 32 := Scalar.shrsi v2 c2_i32
  let c1_i32_5 : BitVec 32 := 1#32
  let v12 : BitVec 32 := Scalar.andi v11 c1_i32_5
  let c176_i32_372 : BitVec 32 := 176#32
  let v418 : BitVec 32 := Scalar.muli v12 c176_i32_372
  let v419 : BitVec 32 := Scalar.addi v143 v418
  let c1_i32_379 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v432 : BitVec 32 := Scalar.subi c1_i32_379 v8
  let c88_i32_380 : BitVec 32 := 88#32
  let v433 : BitVec 32 := Scalar.muli v432 c88_i32_380
  let v434 : BitVec 32 := Scalar.addi v419 v433
  let c0_i32_388 : BitVec 32 := 0#32
  ![v434.toNat, 0]
def k0_dev17 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_385 : BitVec 32 := 1#32
  let v435 : BitVec 32 := Scalar.muli v3 c1_i32_385
  let v436 : BitVec 32 := Scalar.addi c0_i32_386 v435
  v436.toNat
def k0_off35 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c2_i32 : BitVec 32 := 2#32
  let v11 : BitVec 32 := Scalar.shrsi v2 c2_i32
  let c1_i32_5 : BitVec 32 := 1#32
  let v12 : BitVec 32 := Scalar.andi v11 c1_i32_5
  let c176_i32_372 : BitVec 32 := 176#32
  let v418 : BitVec 32 := Scalar.muli v12 c176_i32_372
  let v419 : BitVec 32 := Scalar.addi v143 v418
  let c88_i32_389 : BitVec 32 := 88#32
  let c1_i32_373 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v420 : BitVec 32 := Scalar.subi c1_i32_373 v8
  let c88_i32_374 : BitVec 32 := 88#32
  let v421 : BitVec 32 := Scalar.muli v420 c88_i32_374
  let v443 : BitVec 32 := Scalar.subi c88_i32_389 v421
  let v444 : BitVec 32 := Scalar.addi v419 v443
  let v445 : Index := Scalar.indexCast v444
  let c0_390 : Index := 0#32
  ![v445.toNat, 0]
def k0_off36 (d0 : Dev nD) : Fin 2 → Nat :=
  let c1760_i32_391 : BitVec 32 := 1760#32
  let c88_i32_389 : BitVec 32 := 88#32
  let c1_i32_373 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v420 : BitVec 32 := Scalar.subi c1_i32_373 v8
  let c88_i32_374 : BitVec 32 := 88#32
  let v421 : BitVec 32 := Scalar.muli v420 c88_i32_374
  let v443 : BitVec 32 := Scalar.subi c88_i32_389 v421
  let v448 : BitVec 32 := Scalar.addi c1760_i32_391 v443
  let v449 : Index := Scalar.indexCast v448
  let c0_392 : Index := 0#32
  ![v449.toNat, 0]
def k0_off37 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_411 : BitVec 32 := 176#32
  let v464 : BitVec 32 := Scalar.muli v8 c176_i32_411
  let v465 : BitVec 32 := Scalar.addi v189 v464
  let c1_i32_412 : BitVec 32 := 1#32
  let c1_i32_3 : BitVec 32 := 1#32
  let v9 : BitVec 32 := Scalar.shrsi v2 c1_i32_3
  let c1_i32_4 : BitVec 32 := 1#32
  let v10 : BitVec 32 := Scalar.andi v9 c1_i32_4
  let v466 : BitVec 32 := Scalar.subi c1_i32_412 v10
  let c88_i32_413 : BitVec 32 := 88#32
  let v467 : BitVec 32 := Scalar.muli v466 c88_i32_413
  let v468 : BitVec 32 := Scalar.addi v465 v467
  let v469 : Index := Scalar.indexCast v468
  let c0_414 : Index := 0#32
  ![v469.toNat, 0]
def k0_off38 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_411 : BitVec 32 := 176#32
  let v464 : BitVec 32 := Scalar.muli v8 c176_i32_411
  let v465 : BitVec 32 := Scalar.addi v189 v464
  let c1_i32_418 : BitVec 32 := 1#32
  let c1_i32_3 : BitVec 32 := 1#32
  let v9 : BitVec 32 := Scalar.shrsi v2 c1_i32_3
  let c1_i32_4 : BitVec 32 := 1#32
  let v10 : BitVec 32 := Scalar.andi v9 c1_i32_4
  let v478 : BitVec 32 := Scalar.subi c1_i32_418 v10
  let c88_i32_419 : BitVec 32 := 88#32
  let v479 : BitVec 32 := Scalar.muli v478 c88_i32_419
  let v480 : BitVec 32 := Scalar.addi v465 v479
  let c0_i32_427 : BitVec 32 := 0#32
  ![v480.toNat, 0]
def k0_dev18 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_424 : BitVec 32 := 1#32
  let v481 : BitVec 32 := Scalar.muli v4 c1_i32_424
  let v482 : BitVec 32 := Scalar.addi c0_i32_425 v481
  v482.toNat
def k0_off39 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_411 : BitVec 32 := 176#32
  let v464 : BitVec 32 := Scalar.muli v8 c176_i32_411
  let v465 : BitVec 32 := Scalar.addi v189 v464
  let c88_i32_428 : BitVec 32 := 88#32
  let c1_i32_412 : BitVec 32 := 1#32
  let c1_i32_3 : BitVec 32 := 1#32
  let v9 : BitVec 32 := Scalar.shrsi v2 c1_i32_3
  let c1_i32_4 : BitVec 32 := 1#32
  let v10 : BitVec 32 := Scalar.andi v9 c1_i32_4
  let v466 : BitVec 32 := Scalar.subi c1_i32_412 v10
  let c88_i32_413 : BitVec 32 := 88#32
  let v467 : BitVec 32 := Scalar.muli v466 c88_i32_413
  let v489 : BitVec 32 := Scalar.subi c88_i32_428 v467
  let v490 : BitVec 32 := Scalar.addi v465 v489
  let v491 : Index := Scalar.indexCast v490
  let c0_429 : Index := 0#32
  ![v491.toNat, 0]
def k0_dev19 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_463 : BitVec 32 := 1#32
  let v527 : BitVec 32 := Scalar.muli v5 c1_i32_463
  let v528 : BitVec 32 := Scalar.addi c0_i32_464 v527
  v528.toNat
def k0_off40 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c2_i32 : BitVec 32 := 2#32
  let v11 : BitVec 32 := Scalar.shrsi v2 c2_i32
  let c1_i32_5 : BitVec 32 := 1#32
  let v12 : BitVec 32 := Scalar.andi v11 c1_i32_5
  let c160_i32_489 : BitVec 32 := 160#32
  let v556 : BitVec 32 := Scalar.muli v12 c160_i32_489
  let v557 : BitVec 32 := Scalar.addi v281 v556
  let c1_i32_490 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v558 : BitVec 32 := Scalar.subi c1_i32_490 v8
  let c80_i32 : BitVec 32 := 80#32
  let v559 : BitVec 32 := Scalar.muli v558 c80_i32
  let v560 : BitVec 32 := Scalar.addi v557 v559
  let v561 : Index := Scalar.indexCast v560
  let c0_491 : Index := 0#32
  ![v561.toNat, 0]
def k0_off41 (d0 : Dev nD) : Fin 2 → Nat :=
  let c2432_i32_492 : BitVec 32 := 2432#32
  let c1_i32_490 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v558 : BitVec 32 := Scalar.subi c1_i32_490 v8
  let c80_i32 : BitVec 32 := 80#32
  let v559 : BitVec 32 := Scalar.muli v558 c80_i32
  let v564 : BitVec 32 := Scalar.addi c2432_i32_492 v559
  let v565 : Index := Scalar.indexCast v564
  let c0_493 : Index := 0#32
  ![v565.toNat, 0]
def k0_off42 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c2_i32 : BitVec 32 := 2#32
  let v11 : BitVec 32 := Scalar.shrsi v2 c2_i32
  let c1_i32_5 : BitVec 32 := 1#32
  let v12 : BitVec 32 := Scalar.andi v11 c1_i32_5
  let c160_i32_489 : BitVec 32 := 160#32
  let v556 : BitVec 32 := Scalar.muli v12 c160_i32_489
  let v557 : BitVec 32 := Scalar.addi v281 v556
  let c1_i32_495 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v570 : BitVec 32 := Scalar.subi c1_i32_495 v8
  let c80_i32_496 : BitVec 32 := 80#32
  let v571 : BitVec 32 := Scalar.muli v570 c80_i32_496
  let v572 : BitVec 32 := Scalar.addi v557 v571
  let c0_i32_504 : BitVec 32 := 0#32
  ![v572.toNat, 0]
def k0_dev20 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_501 : BitVec 32 := 1#32
  let v573 : BitVec 32 := Scalar.muli v3 c1_i32_501
  let v574 : BitVec 32 := Scalar.addi c0_i32_502 v573
  v574.toNat
def k0_off43 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c2_i32 : BitVec 32 := 2#32
  let v11 : BitVec 32 := Scalar.shrsi v2 c2_i32
  let c1_i32_5 : BitVec 32 := 1#32
  let v12 : BitVec 32 := Scalar.andi v11 c1_i32_5
  let c160_i32_489 : BitVec 32 := 160#32
  let v556 : BitVec 32 := Scalar.muli v12 c160_i32_489
  let v557 : BitVec 32 := Scalar.addi v281 v556
  let c80_i32_505 : BitVec 32 := 80#32
  let c1_i32_490 : BitVec 32 := 1#32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v558 : BitVec 32 := Scalar.subi c1_i32_490 v8
  let c80_i32 : BitVec 32 := 80#32
  let v559 : BitVec 32 := Scalar.muli v558 c80_i32
  let v581 : BitVec 32 := Scalar.subi c80_i32_505 v559
  let v582 : BitVec 32 := Scalar.addi v557 v581
  let v583 : Index := Scalar.indexCast v582
  let c0_506 : Index := 0#32
  ![v583.toNat, 0]
def k0_off44 (d0 : Dev nD) : Fin 2 → Nat :=
  let c2432_i32_507 : BitVec 32 := 2432#32
  let c80_i32_505 : BitVec 32 := 80#32
  let c1_i32_490 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v558 : BitVec 32 := Scalar.subi c1_i32_490 v8
  let c80_i32 : BitVec 32 := 80#32
  let v559 : BitVec 32 := Scalar.muli v558 c80_i32
  let v581 : BitVec 32 := Scalar.subi c80_i32_505 v559
  let v586 : BitVec 32 := Scalar.addi c2432_i32_507 v581
  let v587 : Index := Scalar.indexCast v586
  let c0_508 : Index := 0#32
  ![v587.toNat, 0]
def k0_off45 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c160_i32_527 : BitVec 32 := 160#32
  let v602 : BitVec 32 := Scalar.muli v8 c160_i32_527
  let v603 : BitVec 32 := Scalar.addi v327 v602
  let c1_i32_528 : BitVec 32 := 1#32
  let c1_i32_3 : BitVec 32 := 1#32
  let v9 : BitVec 32 := Scalar.shrsi v2 c1_i32_3
  let c1_i32_4 : BitVec 32 := 1#32
  let v10 : BitVec 32 := Scalar.andi v9 c1_i32_4
  let v604 : BitVec 32 := Scalar.subi c1_i32_528 v10
  let c80_i32_529 : BitVec 32 := 80#32
  let v605 : BitVec 32 := Scalar.muli v604 c80_i32_529
  let v606 : BitVec 32 := Scalar.addi v603 v605
  let v607 : Index := Scalar.indexCast v606
  let c0_530 : Index := 0#32
  ![v607.toNat, 0]
def k0_off46 (d0 : Dev nD) : Fin 2 → Nat :=
  let c3776_i32_531 : BitVec 32 := 3776#32
  let c1_i32_528 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let v604 : BitVec 32 := Scalar.subi c1_i32_528 v10
  let c80_i32_529 : BitVec 32 := 80#32
  let v605 : BitVec 32 := Scalar.muli v604 c80_i32_529
  let v610 : BitVec 32 := Scalar.addi c3776_i32_531 v605
  let v611 : Index := Scalar.indexCast v610
  let c0_532 : Index := 0#32
  ![v611.toNat, 0]
def k0_off47 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c160_i32_527 : BitVec 32 := 160#32
  let v602 : BitVec 32 := Scalar.muli v8 c160_i32_527
  let v603 : BitVec 32 := Scalar.addi v327 v602
  let c1_i32_534 : BitVec 32 := 1#32
  let c1_i32_3 : BitVec 32 := 1#32
  let v9 : BitVec 32 := Scalar.shrsi v2 c1_i32_3
  let c1_i32_4 : BitVec 32 := 1#32
  let v10 : BitVec 32 := Scalar.andi v9 c1_i32_4
  let v616 : BitVec 32 := Scalar.subi c1_i32_534 v10
  let c80_i32_535 : BitVec 32 := 80#32
  let v617 : BitVec 32 := Scalar.muli v616 c80_i32_535
  let v618 : BitVec 32 := Scalar.addi v603 v617
  let c0_i32_543 : BitVec 32 := 0#32
  ![v618.toNat, 0]
def k0_dev21 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_540 : BitVec 32 := 1#32
  let v619 : BitVec 32 := Scalar.muli v4 c1_i32_540
  let v620 : BitVec 32 := Scalar.addi c0_i32_541 v619
  v620.toNat
def k0_off48 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c160_i32_527 : BitVec 32 := 160#32
  let v602 : BitVec 32 := Scalar.muli v8 c160_i32_527
  let v603 : BitVec 32 := Scalar.addi v327 v602
  let c80_i32_544 : BitVec 32 := 80#32
  let c1_i32_528 : BitVec 32 := 1#32
  let c1_i32_3 : BitVec 32 := 1#32
  let v9 : BitVec 32 := Scalar.shrsi v2 c1_i32_3
  let c1_i32_4 : BitVec 32 := 1#32
  let v10 : BitVec 32 := Scalar.andi v9 c1_i32_4
  let v604 : BitVec 32 := Scalar.subi c1_i32_528 v10
  let c80_i32_529 : BitVec 32 := 80#32
  let v605 : BitVec 32 := Scalar.muli v604 c80_i32_529
  let v627 : BitVec 32 := Scalar.subi c80_i32_544 v605
  let v628 : BitVec 32 := Scalar.addi v603 v627
  let v629 : Index := Scalar.indexCast v628
  let c0_545 : Index := 0#32
  ![v629.toNat, 0]
def k0_off49 (d0 : Dev nD) : Fin 2 → Nat :=
  let c3776_i32_546 : BitVec 32 := 3776#32
  let c80_i32_544 : BitVec 32 := 80#32
  let c1_i32_528 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let v604 : BitVec 32 := Scalar.subi c1_i32_528 v10
  let c80_i32_529 : BitVec 32 := 80#32
  let v605 : BitVec 32 := Scalar.muli v604 c80_i32_529
  let v627 : BitVec 32 := Scalar.subi c80_i32_544 v605
  let v632 : BitVec 32 := Scalar.addi c3776_i32_546 v627
  let v633 : Index := Scalar.indexCast v632
  let c0_547 : Index := 0#32
  ![v633.toNat, 0]
def k0_off50 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_3 : BitVec 32 := 1#32
  let v9 : BitVec 32 := Scalar.shrsi v2 c1_i32_3
  let c1_i32_4 : BitVec 32 := 1#32
  let v10 : BitVec 32 := Scalar.andi v9 c1_i32_4
  let c176_i32_334 : BitVec 32 := 176#32
  let v372 : BitVec 32 := Scalar.muli v10 c176_i32_334
  let v373 : BitVec 32 := Scalar.addi v97 v372
  let c2_i32 : BitVec 32 := 2#32
  let v11 : BitVec 32 := Scalar.shrsi v2 c2_i32
  let c1_i32_5 : BitVec 32 := 1#32
  let v12 : BitVec 32 := Scalar.andi v11 c1_i32_5
  let c88_i32_566 : BitVec 32 := 88#32
  let v648 : BitVec 32 := Scalar.muli v12 c88_i32_566
  let v649 : BitVec 32 := Scalar.addi v373 v648
  let v650 : Index := Scalar.indexCast v649
  let c0_567 : Index := 0#32
  ![v650.toNat, 0]
def k0_off51 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_3 : BitVec 32 := 1#32
  let v9 : BitVec 32 := Scalar.shrsi v2 c1_i32_3
  let c1_i32_4 : BitVec 32 := 1#32
  let v10 : BitVec 32 := Scalar.andi v9 c1_i32_4
  let c176_i32_334 : BitVec 32 := 176#32
  let v372 : BitVec 32 := Scalar.muli v10 c176_i32_334
  let v373 : BitVec 32 := Scalar.addi v97 v372
  let c2_i32 : BitVec 32 := 2#32
  let v11 : BitVec 32 := Scalar.shrsi v2 c2_i32
  let c1_i32_5 : BitVec 32 := 1#32
  let v12 : BitVec 32 := Scalar.andi v11 c1_i32_5
  let c88_i32_566 : BitVec 32 := 88#32
  let v648 : BitVec 32 := Scalar.muli v12 c88_i32_566
  let v649 : BitVec 32 := Scalar.addi v373 v648
  let c0_i32_576 : BitVec 32 := 0#32
  ![v649.toNat, 0]
def k0_dev22 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_574 : BitVec 32 := 1#32
  let v657 : BitVec 32 := Scalar.muli v5 c1_i32_574
  let v658 : BitVec 32 := Scalar.addi c0_i32_575 v657
  v658.toNat
def k0_dev23 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_582 : BitVec 32 := 1#32
  let v665 : BitVec 32 := Scalar.muli v4 c1_i32_582
  let v666 : BitVec 32 := Scalar.addi c0_i32_583 v665
  v666.toNat
def k0_off52 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c2_i32 : BitVec 32 := 2#32
  let v11 : BitVec 32 := Scalar.shrsi v2 c2_i32
  let c1_i32_5 : BitVec 32 := 1#32
  let v12 : BitVec 32 := Scalar.andi v11 c1_i32_5
  let c176_i32_372 : BitVec 32 := 176#32
  let v418 : BitVec 32 := Scalar.muli v12 c176_i32_372
  let v419 : BitVec 32 := Scalar.addi v143 v418
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c88_i32_603 : BitVec 32 := 88#32
  let v683 : BitVec 32 := Scalar.muli v8 c88_i32_603
  let v684 : BitVec 32 := Scalar.addi v419 v683
  let v685 : Index := Scalar.indexCast v684
  let c0_604 : Index := 0#32
  ![v685.toNat, 0]
def k0_off53 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c2_i32 : BitVec 32 := 2#32
  let v11 : BitVec 32 := Scalar.shrsi v2 c2_i32
  let c1_i32_5 : BitVec 32 := 1#32
  let v12 : BitVec 32 := Scalar.andi v11 c1_i32_5
  let c176_i32_372 : BitVec 32 := 176#32
  let v418 : BitVec 32 := Scalar.muli v12 c176_i32_372
  let v419 : BitVec 32 := Scalar.addi v143 v418
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c88_i32_603 : BitVec 32 := 88#32
  let v683 : BitVec 32 := Scalar.muli v8 c88_i32_603
  let v684 : BitVec 32 := Scalar.addi v419 v683
  let c0_i32_613 : BitVec 32 := 0#32
  ![v684.toNat, 0]
def k0_dev24 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_611 : BitVec 32 := 1#32
  let v692 : BitVec 32 := Scalar.muli v3 c1_i32_611
  let v693 : BitVec 32 := Scalar.addi c0_i32_612 v692
  v693.toNat
def k0_dev25 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_619 : BitVec 32 := 1#32
  let v700 : BitVec 32 := Scalar.muli v5 c1_i32_619
  let v701 : BitVec 32 := Scalar.addi c0_i32_620 v700
  v701.toNat
def k0_off54 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_411 : BitVec 32 := 176#32
  let v464 : BitVec 32 := Scalar.muli v8 c176_i32_411
  let v465 : BitVec 32 := Scalar.addi v189 v464
  let c1_i32_3 : BitVec 32 := 1#32
  let v9 : BitVec 32 := Scalar.shrsi v2 c1_i32_3
  let c1_i32_4 : BitVec 32 := 1#32
  let v10 : BitVec 32 := Scalar.andi v9 c1_i32_4
  let c88_i32_640 : BitVec 32 := 88#32
  let v718 : BitVec 32 := Scalar.muli v10 c88_i32_640
  let v719 : BitVec 32 := Scalar.addi v465 v718
  let v720 : Index := Scalar.indexCast v719
  let c0_641 : Index := 0#32
  ![v720.toNat, 0]
def k0_off55 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_411 : BitVec 32 := 176#32
  let v464 : BitVec 32 := Scalar.muli v8 c176_i32_411
  let v465 : BitVec 32 := Scalar.addi v189 v464
  let c1_i32_3 : BitVec 32 := 1#32
  let v9 : BitVec 32 := Scalar.shrsi v2 c1_i32_3
  let c1_i32_4 : BitVec 32 := 1#32
  let v10 : BitVec 32 := Scalar.andi v9 c1_i32_4
  let c88_i32_640 : BitVec 32 := 88#32
  let v718 : BitVec 32 := Scalar.muli v10 c88_i32_640
  let v719 : BitVec 32 := Scalar.addi v465 v718
  let c0_i32_650 : BitVec 32 := 0#32
  ![v719.toNat, 0]
def k0_dev26 (d0 : Dev nD) : Nat :=
  let c0_i32_649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_648 : BitVec 32 := 1#32
  let v727 : BitVec 32 := Scalar.muli v4 c1_i32_648
  let v728 : BitVec 32 := Scalar.addi c0_i32_649 v727
  v728.toNat
def k0_dev27 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_656 : BitVec 32 := 1#32
  let v735 : BitVec 32 := Scalar.muli v3 c1_i32_656
  let v736 : BitVec 32 := Scalar.addi c0_i32_657 v735
  v736.toNat
def k0_dev28 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_685 : BitVec 32 := 1#32
  let v762 : BitVec 32 := Scalar.muli v5 c1_i32_685
  let v763 : BitVec 32 := Scalar.addi c0_i32_686 v762
  v763.toNat
def k0_dev29 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_693 : BitVec 32 := 1#32
  let v770 : BitVec 32 := Scalar.muli v4 c1_i32_693
  let v771 : BitVec 32 := Scalar.addi c0_i32_694 v770
  v771.toNat
def k0_off56 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c2_i32 : BitVec 32 := 2#32
  let v11 : BitVec 32 := Scalar.shrsi v2 c2_i32
  let c1_i32_5 : BitVec 32 := 1#32
  let v12 : BitVec 32 := Scalar.andi v11 c1_i32_5
  let c160_i32_489 : BitVec 32 := 160#32
  let v556 : BitVec 32 := Scalar.muli v12 c160_i32_489
  let v557 : BitVec 32 := Scalar.addi v281 v556
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c80_i32_714 : BitVec 32 := 80#32
  let v788 : BitVec 32 := Scalar.muli v8 c80_i32_714
  let v789 : BitVec 32 := Scalar.addi v557 v788
  let v790 : Index := Scalar.indexCast v789
  let c0_715 : Index := 0#32
  ![v790.toNat, 0]
def k0_off57 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c2_i32 : BitVec 32 := 2#32
  let v11 : BitVec 32 := Scalar.shrsi v2 c2_i32
  let c1_i32_5 : BitVec 32 := 1#32
  let v12 : BitVec 32 := Scalar.andi v11 c1_i32_5
  let c160_i32_489 : BitVec 32 := 160#32
  let v556 : BitVec 32 := Scalar.muli v12 c160_i32_489
  let v557 : BitVec 32 := Scalar.addi v281 v556
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c80_i32_714 : BitVec 32 := 80#32
  let v788 : BitVec 32 := Scalar.muli v8 c80_i32_714
  let v789 : BitVec 32 := Scalar.addi v557 v788
  let c0_i32_724 : BitVec 32 := 0#32
  ![v789.toNat, 0]
def k0_dev30 (d0 : Dev nD) : Nat :=
  let c0_i32_723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_722 : BitVec 32 := 1#32
  let v797 : BitVec 32 := Scalar.muli v3 c1_i32_722
  let v798 : BitVec 32 := Scalar.addi c0_i32_723 v797
  v798.toNat
def k0_dev31 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_730 : BitVec 32 := 1#32
  let v805 : BitVec 32 := Scalar.muli v5 c1_i32_730
  let v806 : BitVec 32 := Scalar.addi c0_i32_731 v805
  v806.toNat
def k0_off58 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c160_i32_527 : BitVec 32 := 160#32
  let v602 : BitVec 32 := Scalar.muli v8 c160_i32_527
  let v603 : BitVec 32 := Scalar.addi v327 v602
  let c1_i32_3 : BitVec 32 := 1#32
  let v9 : BitVec 32 := Scalar.shrsi v2 c1_i32_3
  let c1_i32_4 : BitVec 32 := 1#32
  let v10 : BitVec 32 := Scalar.andi v9 c1_i32_4
  let c80_i32_751 : BitVec 32 := 80#32
  let v823 : BitVec 32 := Scalar.muli v10 c80_i32_751
  let v824 : BitVec 32 := Scalar.addi v603 v823
  let v825 : Index := Scalar.indexCast v824
  let c0_752 : Index := 0#32
  ![v825.toNat, 0]
def k0_off59 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c160_i32_527 : BitVec 32 := 160#32
  let v602 : BitVec 32 := Scalar.muli v8 c160_i32_527
  let v603 : BitVec 32 := Scalar.addi v327 v602
  let c1_i32_3 : BitVec 32 := 1#32
  let v9 : BitVec 32 := Scalar.shrsi v2 c1_i32_3
  let c1_i32_4 : BitVec 32 := 1#32
  let v10 : BitVec 32 := Scalar.andi v9 c1_i32_4
  let c80_i32_751 : BitVec 32 := 80#32
  let v823 : BitVec 32 := Scalar.muli v10 c80_i32_751
  let v824 : BitVec 32 := Scalar.addi v603 v823
  let c0_i32_761 : BitVec 32 := 0#32
  ![v824.toNat, 0]
def k0_dev32 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_759 : BitVec 32 := 1#32
  let v832 : BitVec 32 := Scalar.muli v4 c1_i32_759
  let v833 : BitVec 32 := Scalar.addi c0_i32_760 v832
  v833.toNat
def k0_dev33 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_767 : BitVec 32 := 1#32
  let v840 : BitVec 32 := Scalar.muli v3 c1_i32_767
  let v841 : BitVec 32 := Scalar.addi c0_i32_768 v840
  v841.toNat
def k0_off60 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_3 : BitVec 32 := 1#32
  let v9 : BitVec 32 := Scalar.shrsi v2 c1_i32_3
  let c1_i32_4 : BitVec 32 := 1#32
  let v10 : BitVec 32 := Scalar.andi v9 c1_i32_4
  let c176_i32_334 : BitVec 32 := 176#32
  let v372 : BitVec 32 := Scalar.muli v10 c176_i32_334
  let v373 : BitVec 32 := Scalar.addi v97 v372
  let c2_i32 : BitVec 32 := 2#32
  let v11 : BitVec 32 := Scalar.shrsi v2 c2_i32
  let c1_i32_5 : BitVec 32 := 1#32
  let v12 : BitVec 32 := Scalar.andi v11 c1_i32_5
  let c88_i32_566 : BitVec 32 := 88#32
  let v648 : BitVec 32 := Scalar.muli v12 c88_i32_566
  let v649 : BitVec 32 := Scalar.addi v373 v648
  let c1_i32_787 : BitVec 32 := 1#32
  let c2_i32_786 : BitVec 32 := 2#32
  let v858 : BitVec 32 := Scalar.muli c2_i32_786 v12
  let v859 : BitVec 32 := Scalar.subi c1_i32_787 v858
  let c88_i32_788 : BitVec 32 := 88#32
  let v860 : BitVec 32 := Scalar.muli v859 c88_i32_788
  let v861 : BitVec 32 := Scalar.addi v649 v860
  let c0_i32_796 : BitVec 32 := 0#32
  ![v861.toNat, 0]
def k0_dev34 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_794 : BitVec 32 := 1#32
  let v864 : BitVec 32 := Scalar.muli v4 c1_i32_794
  let v865 : BitVec 32 := Scalar.addi c0_i32_795 v864
  v865.toNat
def k0_off61 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_3 : BitVec 32 := 1#32
  let v9 : BitVec 32 := Scalar.shrsi v2 c1_i32_3
  let c1_i32_4 : BitVec 32 := 1#32
  let v10 : BitVec 32 := Scalar.andi v9 c1_i32_4
  let c176_i32_334 : BitVec 32 := 176#32
  let v372 : BitVec 32 := Scalar.muli v10 c176_i32_334
  let v373 : BitVec 32 := Scalar.addi v97 v372
  let c2_i32 : BitVec 32 := 2#32
  let v11 : BitVec 32 := Scalar.shrsi v2 c2_i32
  let c1_i32_5 : BitVec 32 := 1#32
  let v12 : BitVec 32 := Scalar.andi v11 c1_i32_5
  let c88_i32_566 : BitVec 32 := 88#32
  let v648 : BitVec 32 := Scalar.muli v12 c88_i32_566
  let v649 : BitVec 32 := Scalar.addi v373 v648
  let c88_i32_789 : BitVec 32 := 88#32
  let v862 : BitVec 32 := Scalar.muli v12 c88_i32_789
  let v863 : BitVec 32 := Scalar.subi v649 v862
  let c0_i32_804 : BitVec 32 := 0#32
  ![v863.toNat, 0]
def k0_dev35 (d0 : Dev nD) : Nat :=
  let c0_i32_803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_802 : BitVec 32 := 1#32
  let v872 : BitVec 32 := Scalar.muli v3 c1_i32_802
  let v873 : BitVec 32 := Scalar.addi c0_i32_803 v872
  v873.toNat
def k0_off62 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c2_i32 : BitVec 32 := 2#32
  let v11 : BitVec 32 := Scalar.shrsi v2 c2_i32
  let c1_i32_5 : BitVec 32 := 1#32
  let v12 : BitVec 32 := Scalar.andi v11 c1_i32_5
  let c176_i32_372 : BitVec 32 := 176#32
  let v418 : BitVec 32 := Scalar.muli v12 c176_i32_372
  let v419 : BitVec 32 := Scalar.addi v143 v418
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c88_i32_603 : BitVec 32 := 88#32
  let v683 : BitVec 32 := Scalar.muli v8 c88_i32_603
  let v684 : BitVec 32 := Scalar.addi v419 v683
  let c1_i32_822 : BitVec 32 := 1#32
  let c2_i32_821 : BitVec 32 := 2#32
  let v890 : BitVec 32 := Scalar.muli c2_i32_821 v8
  let v891 : BitVec 32 := Scalar.subi c1_i32_822 v890
  let c88_i32_823 : BitVec 32 := 88#32
  let v892 : BitVec 32 := Scalar.muli v891 c88_i32_823
  let v893 : BitVec 32 := Scalar.addi v684 v892
  let c0_i32_831 : BitVec 32 := 0#32
  ![v893.toNat, 0]
def k0_dev36 (d0 : Dev nD) : Nat :=
  let c0_i32_830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_829 : BitVec 32 := 1#32
  let v896 : BitVec 32 := Scalar.muli v5 c1_i32_829
  let v897 : BitVec 32 := Scalar.addi c0_i32_830 v896
  v897.toNat
def k0_off63 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c2_i32 : BitVec 32 := 2#32
  let v11 : BitVec 32 := Scalar.shrsi v2 c2_i32
  let c1_i32_5 : BitVec 32 := 1#32
  let v12 : BitVec 32 := Scalar.andi v11 c1_i32_5
  let c176_i32_372 : BitVec 32 := 176#32
  let v418 : BitVec 32 := Scalar.muli v12 c176_i32_372
  let v419 : BitVec 32 := Scalar.addi v143 v418
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c88_i32_603 : BitVec 32 := 88#32
  let v683 : BitVec 32 := Scalar.muli v8 c88_i32_603
  let v684 : BitVec 32 := Scalar.addi v419 v683
  let c88_i32_824 : BitVec 32 := 88#32
  let v894 : BitVec 32 := Scalar.muli v8 c88_i32_824
  let v895 : BitVec 32 := Scalar.subi v684 v894
  let c0_i32_839 : BitVec 32 := 0#32
  ![v895.toNat, 0]
def k0_dev37 (d0 : Dev nD) : Nat :=
  let c0_i32_838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_837 : BitVec 32 := 1#32
  let v904 : BitVec 32 := Scalar.muli v4 c1_i32_837
  let v905 : BitVec 32 := Scalar.addi c0_i32_838 v904
  v905.toNat
def k0_off64 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_411 : BitVec 32 := 176#32
  let v464 : BitVec 32 := Scalar.muli v8 c176_i32_411
  let v465 : BitVec 32 := Scalar.addi v189 v464
  let c1_i32_3 : BitVec 32 := 1#32
  let v9 : BitVec 32 := Scalar.shrsi v2 c1_i32_3
  let c1_i32_4 : BitVec 32 := 1#32
  let v10 : BitVec 32 := Scalar.andi v9 c1_i32_4
  let c88_i32_640 : BitVec 32 := 88#32
  let v718 : BitVec 32 := Scalar.muli v10 c88_i32_640
  let v719 : BitVec 32 := Scalar.addi v465 v718
  let c1_i32_857 : BitVec 32 := 1#32
  let c2_i32_856 : BitVec 32 := 2#32
  let v922 : BitVec 32 := Scalar.muli c2_i32_856 v10
  let v923 : BitVec 32 := Scalar.subi c1_i32_857 v922
  let c88_i32_858 : BitVec 32 := 88#32
  let v924 : BitVec 32 := Scalar.muli v923 c88_i32_858
  let v925 : BitVec 32 := Scalar.addi v719 v924
  let c0_i32_866 : BitVec 32 := 0#32
  ![v925.toNat, 0]
def k0_dev38 (d0 : Dev nD) : Nat :=
  let c0_i32_865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_864 : BitVec 32 := 1#32
  let v928 : BitVec 32 := Scalar.muli v3 c1_i32_864
  let v929 : BitVec 32 := Scalar.addi c0_i32_865 v928
  v929.toNat
def k0_off65 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_411 : BitVec 32 := 176#32
  let v464 : BitVec 32 := Scalar.muli v8 c176_i32_411
  let v465 : BitVec 32 := Scalar.addi v189 v464
  let c1_i32_3 : BitVec 32 := 1#32
  let v9 : BitVec 32 := Scalar.shrsi v2 c1_i32_3
  let c1_i32_4 : BitVec 32 := 1#32
  let v10 : BitVec 32 := Scalar.andi v9 c1_i32_4
  let c88_i32_640 : BitVec 32 := 88#32
  let v718 : BitVec 32 := Scalar.muli v10 c88_i32_640
  let v719 : BitVec 32 := Scalar.addi v465 v718
  let c88_i32_859 : BitVec 32 := 88#32
  let v926 : BitVec 32 := Scalar.muli v10 c88_i32_859
  let v927 : BitVec 32 := Scalar.subi v719 v926
  let c0_i32_874 : BitVec 32 := 0#32
  ![v927.toNat, 0]
def k0_dev39 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_872 : BitVec 32 := 1#32
  let v936 : BitVec 32 := Scalar.muli v5 c1_i32_872
  let v937 : BitVec 32 := Scalar.addi c0_i32_873 v936
  v937.toNat
def k0_dev40 (d0 : Dev nD) : Nat :=
  let c0_i32_900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_899 : BitVec 32 := 1#32
  let v960 : BitVec 32 := Scalar.muli v4 c1_i32_899
  let v961 : BitVec 32 := Scalar.addi c0_i32_900 v960
  v961.toNat
def k0_dev41 (d0 : Dev nD) : Nat :=
  let c0_i32_908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_907 : BitVec 32 := 1#32
  let v968 : BitVec 32 := Scalar.muli v3 c1_i32_907
  let v969 : BitVec 32 := Scalar.addi c0_i32_908 v968
  v969.toNat
def k0_off66 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c2_i32 : BitVec 32 := 2#32
  let v11 : BitVec 32 := Scalar.shrsi v2 c2_i32
  let c1_i32_5 : BitVec 32 := 1#32
  let v12 : BitVec 32 := Scalar.andi v11 c1_i32_5
  let c160_i32_489 : BitVec 32 := 160#32
  let v556 : BitVec 32 := Scalar.muli v12 c160_i32_489
  let v557 : BitVec 32 := Scalar.addi v281 v556
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c80_i32_714 : BitVec 32 := 80#32
  let v788 : BitVec 32 := Scalar.muli v8 c80_i32_714
  let v789 : BitVec 32 := Scalar.addi v557 v788
  let c1_i32_927 : BitVec 32 := 1#32
  let c2_i32_926 : BitVec 32 := 2#32
  let v986 : BitVec 32 := Scalar.muli c2_i32_926 v8
  let v987 : BitVec 32 := Scalar.subi c1_i32_927 v986
  let c80_i32_928 : BitVec 32 := 80#32
  let v988 : BitVec 32 := Scalar.muli v987 c80_i32_928
  let v989 : BitVec 32 := Scalar.addi v789 v988
  let c0_i32_936 : BitVec 32 := 0#32
  ![v989.toNat, 0]
def k0_dev42 (d0 : Dev nD) : Nat :=
  let c0_i32_935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_934 : BitVec 32 := 1#32
  let v992 : BitVec 32 := Scalar.muli v5 c1_i32_934
  let v993 : BitVec 32 := Scalar.addi c0_i32_935 v992
  v993.toNat
def k0_off67 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c2_i32 : BitVec 32 := 2#32
  let v11 : BitVec 32 := Scalar.shrsi v2 c2_i32
  let c1_i32_5 : BitVec 32 := 1#32
  let v12 : BitVec 32 := Scalar.andi v11 c1_i32_5
  let c160_i32_489 : BitVec 32 := 160#32
  let v556 : BitVec 32 := Scalar.muli v12 c160_i32_489
  let v557 : BitVec 32 := Scalar.addi v281 v556
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c80_i32_714 : BitVec 32 := 80#32
  let v788 : BitVec 32 := Scalar.muli v8 c80_i32_714
  let v789 : BitVec 32 := Scalar.addi v557 v788
  let c80_i32_929 : BitVec 32 := 80#32
  let v990 : BitVec 32 := Scalar.muli v8 c80_i32_929
  let v991 : BitVec 32 := Scalar.subi v789 v990
  let c0_i32_944 : BitVec 32 := 0#32
  ![v991.toNat, 0]
def k0_dev43 (d0 : Dev nD) : Nat :=
  let c0_i32_943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_942 : BitVec 32 := 1#32
  let v1000 : BitVec 32 := Scalar.muli v4 c1_i32_942
  let v1001 : BitVec 32 := Scalar.addi c0_i32_943 v1000
  v1001.toNat
def k0_off68 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c160_i32_527 : BitVec 32 := 160#32
  let v602 : BitVec 32 := Scalar.muli v8 c160_i32_527
  let v603 : BitVec 32 := Scalar.addi v327 v602
  let c1_i32_3 : BitVec 32 := 1#32
  let v9 : BitVec 32 := Scalar.shrsi v2 c1_i32_3
  let c1_i32_4 : BitVec 32 := 1#32
  let v10 : BitVec 32 := Scalar.andi v9 c1_i32_4
  let c80_i32_751 : BitVec 32 := 80#32
  let v823 : BitVec 32 := Scalar.muli v10 c80_i32_751
  let v824 : BitVec 32 := Scalar.addi v603 v823
  let c1_i32_962 : BitVec 32 := 1#32
  let c2_i32_961 : BitVec 32 := 2#32
  let v1018 : BitVec 32 := Scalar.muli c2_i32_961 v10
  let v1019 : BitVec 32 := Scalar.subi c1_i32_962 v1018
  let c80_i32_963 : BitVec 32 := 80#32
  let v1020 : BitVec 32 := Scalar.muli v1019 c80_i32_963
  let v1021 : BitVec 32 := Scalar.addi v824 v1020
  let c0_i32_971 : BitVec 32 := 0#32
  ![v1021.toNat, 0]
def k0_dev44 (d0 : Dev nD) : Nat :=
  let c0_i32_970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_969 : BitVec 32 := 1#32
  let v1024 : BitVec 32 := Scalar.muli v3 c1_i32_969
  let v1025 : BitVec 32 := Scalar.addi c0_i32_970 v1024
  v1025.toNat
def k0_off69 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c160_i32_527 : BitVec 32 := 160#32
  let v602 : BitVec 32 := Scalar.muli v8 c160_i32_527
  let v603 : BitVec 32 := Scalar.addi v327 v602
  let c1_i32_3 : BitVec 32 := 1#32
  let v9 : BitVec 32 := Scalar.shrsi v2 c1_i32_3
  let c1_i32_4 : BitVec 32 := 1#32
  let v10 : BitVec 32 := Scalar.andi v9 c1_i32_4
  let c80_i32_751 : BitVec 32 := 80#32
  let v823 : BitVec 32 := Scalar.muli v10 c80_i32_751
  let v824 : BitVec 32 := Scalar.addi v603 v823
  let c80_i32_964 : BitVec 32 := 80#32
  let v1022 : BitVec 32 := Scalar.muli v10 c80_i32_964
  let v1023 : BitVec 32 := Scalar.subi v824 v1022
  let c0_i32_979 : BitVec 32 := 0#32
  ![v1023.toNat, 0]
def k0_dev45 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_977 : BitVec 32 := 1#32
  let v1032 : BitVec 32 := Scalar.muli v5 c1_i32_977
  let v1033 : BitVec 32 := Scalar.addi c0_i32_978 v1032
  v1033.toNat
def k0_off70 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c352_i32_96 : BitVec 32 := 352#32
  let v96 : BitVec 32 := Scalar.muli v8 c352_i32_96
  let v97 : BitVec 32 := Scalar.addi c0_i32_97 v96
  let c1_i32_3 : BitVec 32 := 1#32
  let v9 : BitVec 32 := Scalar.shrsi v2 c1_i32_3
  let c1_i32_4 : BitVec 32 := 1#32
  let v10 : BitVec 32 := Scalar.andi v9 c1_i32_4
  let c176_i32_334 : BitVec 32 := 176#32
  let v372 : BitVec 32 := Scalar.muli v10 c176_i32_334
  let v373 : BitVec 32 := Scalar.addi v97 v372
  let c2_i32 : BitVec 32 := 2#32
  let v11 : BitVec 32 := Scalar.shrsi v2 c2_i32
  let c1_i32_5 : BitVec 32 := 1#32
  let v12 : BitVec 32 := Scalar.andi v11 c1_i32_5
  let c88_i32_566 : BitVec 32 := 88#32
  let v648 : BitVec 32 := Scalar.muli v12 c88_i32_566
  let v649 : BitVec 32 := Scalar.addi v373 v648
  let c88_i32_789 : BitVec 32 := 88#32
  let v862 : BitVec 32 := Scalar.muli v12 c88_i32_789
  let v863 : BitVec 32 := Scalar.subi v649 v862
  let c1_i32_1012 : BitVec 32 := 1#32
  let c2_i32_1011 : BitVec 32 := 2#32
  let v1060 : BitVec 32 := Scalar.muli c2_i32_1011 v10
  let v1061 : BitVec 32 := Scalar.subi c1_i32_1012 v1060
  let c2_i32_1013 : BitVec 32 := 2#32
  let v1062 : BitVec 32 := Scalar.muli v1061 c2_i32_1013
  let c88_i32_1014 : BitVec 32 := 88#32
  let v1063 : BitVec 32 := Scalar.muli v1062 c88_i32_1014
  let v1064 : BitVec 32 := Scalar.addi v863 v1063
  let c0_i32_1021 : BitVec 32 := 0#32
  ![v1064.toNat, 0]
def k0_dev46 (d0 : Dev nD) : Nat :=
  let c0_i32_1020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1019 : BitVec 32 := 1#32
  let v1065 : BitVec 32 := Scalar.muli v3 c1_i32_1019
  let v1066 : BitVec 32 := Scalar.addi c0_i32_1020 v1065
  v1066.toNat
def k0_off71 (d0 : Dev nD) : Fin 2 → Nat :=
  let c1408_i32_136 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c352_i32_135 : BitVec 32 := 352#32
  let v142 : BitVec 32 := Scalar.muli v10 c352_i32_135
  let v143 : BitVec 32 := Scalar.addi c1408_i32_136 v142
  let c2_i32 : BitVec 32 := 2#32
  let v11 : BitVec 32 := Scalar.shrsi v2 c2_i32
  let c1_i32_5 : BitVec 32 := 1#32
  let v12 : BitVec 32 := Scalar.andi v11 c1_i32_5
  let c176_i32_372 : BitVec 32 := 176#32
  let v418 : BitVec 32 := Scalar.muli v12 c176_i32_372
  let v419 : BitVec 32 := Scalar.addi v143 v418
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c88_i32_603 : BitVec 32 := 88#32
  let v683 : BitVec 32 := Scalar.muli v8 c88_i32_603
  let v684 : BitVec 32 := Scalar.addi v419 v683
  let c88_i32_824 : BitVec 32 := 88#32
  let v894 : BitVec 32 := Scalar.muli v8 c88_i32_824
  let v895 : BitVec 32 := Scalar.subi v684 v894
  let c1_i32_1054 : BitVec 32 := 1#32
  let c2_i32_1053 : BitVec 32 := 2#32
  let v1093 : BitVec 32 := Scalar.muli c2_i32_1053 v12
  let v1094 : BitVec 32 := Scalar.subi c1_i32_1054 v1093
  let c2_i32_1055 : BitVec 32 := 2#32
  let v1095 : BitVec 32 := Scalar.muli v1094 c2_i32_1055
  let c88_i32_1056 : BitVec 32 := 88#32
  let v1096 : BitVec 32 := Scalar.muli v1095 c88_i32_1056
  let v1097 : BitVec 32 := Scalar.addi v895 v1096
  let c0_i32_1063 : BitVec 32 := 0#32
  ![v1097.toNat, 0]
def k0_dev47 (d0 : Dev nD) : Nat :=
  let c0_i32_1062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1061 : BitVec 32 := 1#32
  let v1098 : BitVec 32 := Scalar.muli v4 c1_i32_1061
  let v1099 : BitVec 32 := Scalar.addi c0_i32_1062 v1098
  v1099.toNat
def k0_off72 (d0 : Dev nD) : Fin 2 → Nat :=
  let c2752_i32_176 : BitVec 32 := 2752#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c352_i32_175 : BitVec 32 := 352#32
  let v188 : BitVec 32 := Scalar.muli v12 c352_i32_175
  let v189 : BitVec 32 := Scalar.addi c2752_i32_176 v188
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_411 : BitVec 32 := 176#32
  let v464 : BitVec 32 := Scalar.muli v8 c176_i32_411
  let v465 : BitVec 32 := Scalar.addi v189 v464
  let c1_i32_3 : BitVec 32 := 1#32
  let v9 : BitVec 32 := Scalar.shrsi v2 c1_i32_3
  let c1_i32_4 : BitVec 32 := 1#32
  let v10 : BitVec 32 := Scalar.andi v9 c1_i32_4
  let c88_i32_640 : BitVec 32 := 88#32
  let v718 : BitVec 32 := Scalar.muli v10 c88_i32_640
  let v719 : BitVec 32 := Scalar.addi v465 v718
  let c88_i32_859 : BitVec 32 := 88#32
  let v926 : BitVec 32 := Scalar.muli v10 c88_i32_859
  let v927 : BitVec 32 := Scalar.subi v719 v926
  let c1_i32_1096 : BitVec 32 := 1#32
  let c2_i32_1095 : BitVec 32 := 2#32
  let v1126 : BitVec 32 := Scalar.muli c2_i32_1095 v8
  let v1127 : BitVec 32 := Scalar.subi c1_i32_1096 v1126
  let c2_i32_1097 : BitVec 32 := 2#32
  let v1128 : BitVec 32 := Scalar.muli v1127 c2_i32_1097
  let c88_i32_1098 : BitVec 32 := 88#32
  let v1129 : BitVec 32 := Scalar.muli v1128 c88_i32_1098
  let v1130 : BitVec 32 := Scalar.addi v927 v1129
  let c0_i32_1105 : BitVec 32 := 0#32
  ![v1130.toNat, 0]
def k0_dev48 (d0 : Dev nD) : Nat :=
  let c0_i32_1104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1103 : BitVec 32 := 1#32
  let v1131 : BitVec 32 := Scalar.muli v5 c1_i32_1103
  let v1132 : BitVec 32 := Scalar.addi c0_i32_1104 v1131
  v1132.toNat
def k0_dev49 (d0 : Dev nD) : Nat :=
  let c0_i32_1146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1145 : BitVec 32 := 1#32
  let v1164 : BitVec 32 := Scalar.muli v3 c1_i32_1145
  let v1165 : BitVec 32 := Scalar.addi c0_i32_1146 v1164
  v1165.toNat
def k0_off73 (d0 : Dev nD) : Fin 2 → Nat :=
  let c2112_i32_256 : BitVec 32 := 2112#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c320_i32_255 : BitVec 32 := 320#32
  let v280 : BitVec 32 := Scalar.muli v10 c320_i32_255
  let v281 : BitVec 32 := Scalar.addi c2112_i32_256 v280
  let c2_i32 : BitVec 32 := 2#32
  let v11 : BitVec 32 := Scalar.shrsi v2 c2_i32
  let c1_i32_5 : BitVec 32 := 1#32
  let v12 : BitVec 32 := Scalar.andi v11 c1_i32_5
  let c160_i32_489 : BitVec 32 := 160#32
  let v556 : BitVec 32 := Scalar.muli v12 c160_i32_489
  let v557 : BitVec 32 := Scalar.addi v281 v556
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c80_i32_714 : BitVec 32 := 80#32
  let v788 : BitVec 32 := Scalar.muli v8 c80_i32_714
  let v789 : BitVec 32 := Scalar.addi v557 v788
  let c80_i32_929 : BitVec 32 := 80#32
  let v990 : BitVec 32 := Scalar.muli v8 c80_i32_929
  let v991 : BitVec 32 := Scalar.subi v789 v990
  let c1_i32_1180 : BitVec 32 := 1#32
  let c2_i32_1179 : BitVec 32 := 2#32
  let v1192 : BitVec 32 := Scalar.muli c2_i32_1179 v12
  let v1193 : BitVec 32 := Scalar.subi c1_i32_1180 v1192
  let c2_i32_1181 : BitVec 32 := 2#32
  let v1194 : BitVec 32 := Scalar.muli v1193 c2_i32_1181
  let c80_i32_1182 : BitVec 32 := 80#32
  let v1195 : BitVec 32 := Scalar.muli v1194 c80_i32_1182
  let v1196 : BitVec 32 := Scalar.addi v991 v1195
  let c0_i32_1189 : BitVec 32 := 0#32
  ![v1196.toNat, 0]
def k0_dev50 (d0 : Dev nD) : Nat :=
  let c0_i32_1188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1187 : BitVec 32 := 1#32
  let v1197 : BitVec 32 := Scalar.muli v4 c1_i32_1187
  let v1198 : BitVec 32 := Scalar.addi c0_i32_1188 v1197
  v1198.toNat
def k0_off74 (d0 : Dev nD) : Fin 2 → Nat :=
  let c3456_i32_295 : BitVec 32 := 3456#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_5 : BitVec 32 := 1#32
  let v12 : BitVec 32 := Scalar.andi v11 c1_i32_5
  let c320_i32_294 : BitVec 32 := 320#32
  let v326 : BitVec 32 := Scalar.muli v12 c320_i32_294
  let v327 : BitVec 32 := Scalar.addi c3456_i32_295 v326
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c160_i32_527 : BitVec 32 := 160#32
  let v602 : BitVec 32 := Scalar.muli v8 c160_i32_527
  let v603 : BitVec 32 := Scalar.addi v327 v602
  let c1_i32_3 : BitVec 32 := 1#32
  let v9 : BitVec 32 := Scalar.shrsi v2 c1_i32_3
  let c1_i32_4 : BitVec 32 := 1#32
  let v10 : BitVec 32 := Scalar.andi v9 c1_i32_4
  let c80_i32_751 : BitVec 32 := 80#32
  let v823 : BitVec 32 := Scalar.muli v10 c80_i32_751
  let v824 : BitVec 32 := Scalar.addi v603 v823
  let c80_i32_964 : BitVec 32 := 80#32
  let v1022 : BitVec 32 := Scalar.muli v10 c80_i32_964
  let v1023 : BitVec 32 := Scalar.subi v824 v1022
  let c1_i32_1222 : BitVec 32 := 1#32
  let c2_i32_1221 : BitVec 32 := 2#32
  let v1225 : BitVec 32 := Scalar.muli c2_i32_1221 v8
  let v1226 : BitVec 32 := Scalar.subi c1_i32_1222 v1225
  let c2_i32_1223 : BitVec 32 := 2#32
  let v1227 : BitVec 32 := Scalar.muli v1226 c2_i32_1223
  let c80_i32_1224 : BitVec 32 := 80#32
  let v1228 : BitVec 32 := Scalar.muli v1227 c80_i32_1224
  let v1229 : BitVec 32 := Scalar.addi v1023 v1228
  let c0_i32_1231 : BitVec 32 := 0#32
  ![v1229.toNat, 0]
def k0_dev51 (d0 : Dev nD) : Nat :=
  let c0_i32_1230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1229 : BitVec 32 := 1#32
  let v1230 : BitVec 32 := Scalar.muli v5 c1_i32_1229
  let v1231 : BitVec 32 := Scalar.addi c0_i32_1230 v1230
  v1231.toNat
def k0_dev52 (d0 : Dev nD) : Nat :=
  let c0_i32_1415_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1414_r0 : BitVec 32 := 1#32
  let v1359_r0 : BitVec 32 := Scalar.muli v3 c1_i32_1414_r0
  let v1360_r0 : BitVec 32 := Scalar.addi c0_i32_1415_r0 v1359_r0
  v1360_r0.toNat
def k0_dev53 (d0 : Dev nD) : Nat :=
  let c0_i32_1418_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1417_r0 : BitVec 32 := 1#32
  let v1361_r0 : BitVec 32 := Scalar.muli v4 c1_i32_1417_r0
  let v1362_r0 : BitVec 32 := Scalar.addi c0_i32_1418_r0 v1361_r0
  v1362_r0.toNat
def k0_dev54 (d0 : Dev nD) : Nat :=
  let c0_i32_1421_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1420_r0 : BitVec 32 := 1#32
  let v1363_r0 : BitVec 32 := Scalar.muli v5 c1_i32_1420_r0
  let v1364_r0 : BitVec 32 := Scalar.addi c0_i32_1421_r0 v1363_r0
  v1364_r0.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S8x4096x1024 : Shape := ⟨3, ![8, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x1024, .f32⟩
  | .hbm, ⟨2, _⟩ => ⟨S_, .f32⟩
  | .hbm, ⟨3, _⟩ => ⟨S4096x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Geometry.lean ====
/-
# The cube and the rows

The eight devices are the corners of a cube. Along each of its three axes a device has one opposite corner
(`peer`), and its own place on the axis is 0 or 1 (`coord`). The 4096 rows of an array are cut into six parts; each
part goes through the three axes in its own order (`axis`). On one axis a part is halved: a device keeps the half that
its place names and sends the other one over. This file gives the tables of that, which rows every transfer reads and
writes, and the few facts about them the rest of the proof uses.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelProof

open Cert.KernelIdeal Cert.KernelIdeal.Gen
open Idealize.ShloMosaic
open Idealize.ShloMosaic.TcCoe

/-! ## The cube -/

/-- What is xored into a device's number to cross an axis. -/
def mask : Fin 3 → ℕ := ![1, 3, 4]

set_option backward.proofsInPublic true in
/-- The device opposite to `c` along the axis `d`. -/
def peer (d : Fin 3) (c : Dev nD) : Dev nD := ⟨(c.val ^^^ mask d) % 8, Nat.mod_lt _ (by decide)⟩

/-- The place (0 or 1) of `c` on the axis `d`. -/
def coord (d : Fin 3) (c : Dev nD) : ℕ := ![(c.val ^^^ (c.val / 2)) % 2, (c.val / 2) % 2, (c.val / 4) % 2] d

theorem peer_peer : ∀ (d : Fin 3) (c : Dev nD), peer d (peer d c) = c := by decide +kernel
theorem coord_cases : ∀ (d : Fin 3) (c : Dev nD), coord d c = 0 ∨ coord d c = 1 := by decide +kernel
theorem coord_peer : ∀ (d d' : Fin 3) (c : Dev nD),
    coord d' (peer d c) = if d' = d then 1 - coord d' c else coord d' c := by decide +kernel

/-- Crossing an axis, as a permutation of the devices. -/
def peerEquiv (d : Fin 3) : Dev nD ≃ Dev nD := ⟨peer d, peer d, peer_peer d, peer_peer d⟩

/-! ## The parts -/

/-- The first row of a part. -/
def base : Fin 6 → ℕ := ![0, 704, 1408, 2112, 2752, 3456]
/-- An eighth of a part's rows. -/
def l3 : Fin 6 → ℕ := ![88, 88, 88, 80, 88, 80]
/-- A quarter of a part's rows. -/
def l2 (p : Fin 6) : ℕ := 2 * l3 p
/-- Half of a part's rows. -/
def l1 (p : Fin 6) : ℕ := 4 * l3 p

/-- The axis a part crosses at its first, second and third halving. -/
def axis : Fin 6 → Fin 3 → Fin 3 :=
  ![![0, 1, 2], ![0, 1, 2], ![1, 2, 0], ![1, 2, 0], ![2, 0, 1], ![2, 0, 1]]

theorem axis_inj : ∀ (p : Fin 6) (k k' : Fin 3), axis p k = axis p k' → k = k' := by decide

/-- The device across a part's `k`-th axis. -/
def mate (p : Fin 6) (k : Fin 3) (c : Dev nD) : Dev nD := peer (axis p k) c
/-- A device's place on a part's `k`-th axis. -/
def bit (p : Fin 6) (k : Fin 3) (c : Dev nD) : ℕ := coord (axis p k) c

theorem mate_mate (p : Fin 6) (k : Fin 3) (c : Dev nD) : mate p k (mate p k c) = c := peer_peer _ _
theorem bit_cases (p : Fin 6) (k : Fin 3) (c : Dev nD) : bit p k c = 0 ∨ bit p k c = 1 := coord_cases _ _
theorem bit_mate_self (p : Fin 6) (k : Fin 3) (c : Dev nD) : bit p k (mate p k c) = 1 - bit p k c := by
  unfold bit mate; rw [coord_peer, if_pos rfl]
theorem bit_mate_ne (p : Fin 6) {k k' : Fin 3} (c : Dev nD) (h : k' ≠ k) : bit p k' (mate p k c) = bit p k' c := by
  unfold bit mate; rw [coord_peer, if_neg fun e => h (axis_inj p _ _ e)]

section Rows
variable (p : Fin 6) (c : Dev nD)

/-- The half a device keeps at the first halving, and the one it sends. -/
def keep1 : ℕ := base p + bit p 0 c * l1 p
def sib1 : ℕ := base p + (1 - bit p 0 c) * l1 p
/-- Of the kept half, the quarter kept at the second halving, and the one sent. -/
def keep2 : ℕ := keep1 p c + bit p 1 c * l2 p
def sib2 : ℕ := keep1 p c + (1 - bit p 1 c) * l2 p
/-- Of the kept quarter, the eighth kept at the third halving, and the one sent. -/
def keep3 : ℕ := keep2 p c + bit p 2 c * l3 p
def sib3 : ℕ := keep2 p c + (1 - bit p 2 c) * l3 p
/-- The two eighths of the quarter sent at the second halving: the one in step with `keep3`, and the other. -/
def far3a : ℕ := sib2 p c + bit p 2 c * l3 p
def far3b : ℕ := sib2 p c + (1 - bit p 2 c) * l3 p
/-- The two quarters of the half sent at the first halving: the one in step with `keep2`, and the other. -/
def far2a : ℕ := sib1 p c + bit p 1 c * l2 p
def far2b : ℕ := sib1 p c + (1 - bit p 1 c) * l2 p
end Rows

/-! ## The transfers

A part makes eight transfers: three while the sum is built up (numbers 0, 1, 2, over its first, second and third
axis), and five that spread the finished rows (number 3 over the third axis, 4 and 5 over the second, 6 and 7 over
the first). -/

/-- The halving whose axis a transfer crosses. -/
def leg : Fin 8 → Fin 3 := ![0, 1, 2, 2, 1, 1, 0, 0]

/-- The device a transfer of `c` goes to (and, crossing back, the one it comes from). -/
def tgt (p : Fin 6) (e : Fin 8) (c : Dev nD) : Dev nD := mate p (leg e) c

theorem tgt_tgt (p : Fin 6) (e : Fin 8) (c : Dev nD) : tgt p e (tgt p e c) = c := mate_mate _ _ _

/-- The first row a transfer of `c` reads. -/
def srcRow (p : Fin 6) (e : Fin 8) (c : Dev nD) : ℕ :=
  ![sib1 p c, sib2 p c, sib3 p c, keep3 p c, keep3 p c, sib3 p c, keep2 p c, sib2 p c] e

/-- How many rows a transfer moves. -/
def len (p : Fin 6) (e : Fin 8) : ℕ := ![l1 p, l2 p, l3 p, l3 p, l3 p, l3 p, l2 p, l2 p] e

/-- The first row of the receive buffer's region for the `k`-th halving. -/
def comRow (p : Fin 6) (k : Fin 3) : ℕ := ![base p, base p + 2 * l2 p, base p + 3 * l2 p] k
/-- How many rows that region has. -/
def comLen (p : Fin 6) (k : Fin 3) : ℕ := ![l1 p, l2 p, l3 p] k

/-! ## Where the other side's rows lie -/

section Across
variable (p : Fin 6) (c : Dev nD)

theorem keep1_mate0 : keep1 p (mate p 0 c) = sib1 p c := by
  unfold keep1 sib1; rw [bit_mate_self]
theorem sib1_mate0 : sib1 p (mate p 0 c) = keep1 p c := by
  unfold keep1 sib1; rw [bit_mate_self]; rcases bit_cases p 0 c with h | h <;> rw [h]
theorem keep1_mate (k : Fin 3) (h : k ≠ 0) : keep1 p (mate p k c) = keep1 p c := by
  unfold keep1; rw [bit_mate_ne p c h.symm]
theorem keep2_mate1 : keep2 p (mate p 1 c) = sib2 p c := by
  unfold keep2 sib2; rw [keep1_mate p c 1 (by decide), bit_mate_self]
theorem sib2_mate1 : sib2 p (mate p 1 c) = keep2 p c := by
  unfold keep2 sib2; rw [keep1_mate p c 1 (by decide), bit_mate_self]; rcases bit_cases p 1 c with h | h <;> rw [h]
theorem keep2_mate2 : keep2 p (mate p 2 c) = keep2 p c := by
  unfold keep2; rw [keep1_mate p c 2 (by decide), bit_mate_ne p c (by decide)]
theorem keep3_mate2 : keep3 p (mate p 2 c) = sib3 p c := by
  unfold keep3 sib3; rw [keep2_mate2, bit_mate_self]
theorem sib3_mate2 : sib3 p (mate p 2 c) = keep3 p c := by
  unfold keep3 sib3; rw [keep2_mate2, bit_mate_self]; rcases bit_cases p 2 c with h | h <;> rw [h]
theorem keep3_mate1 : keep3 p (mate p 1 c) = far3a p c := by
  unfold keep3 far3a; rw [keep2_mate1, bit_mate_ne p c (by decide)]
theorem sib3_mate1 : sib3 p (mate p 1 c) = far3b p c := by
  unfold sib3 far3b; rw [keep2_mate1, bit_mate_ne p c (by decide)]
theorem keep2_mate0 : keep2 p (mate p 0 c) = far2a p c := by
  unfold keep2 far2a; rw [keep1_mate0, bit_mate_ne p c (by decide)]
theorem sib2_mate0 : sib2 p (mate p 0 c) = far2b p c := by
  unfold sib2 far2b; rw [keep1_mate0, bit_mate_ne p c (by decide)]
end Across

/-! ## Sets of rows -/

/-- The contents of one of the kernel's three buffers. -/
abbrev Cont (F : FTy → Type) : Type := S4096x1024.Idx → Elt F .f32

/-- The elements of the rows `a, …, a + n - 1`. -/
def rows (a n : ℕ) : Finset S4096x1024.Idx := Finset.univ.filter fun i => a ≤ (i 0).val ∧ (i 0).val < a + n

theorem mem_rows {a n : ℕ} {i : S4096x1024.Idx} : i ∈ rows a n ↔ a ≤ (i 0).val ∧ (i 0).val < a + n := by
  simp [rows]

theorem rows_union (a n k : ℕ) : rows a (n + k) = rows a n ∪ rows (a + n) k := by
  ext i; rw [Finset.mem_union, mem_rows, mem_rows, mem_rows]; omega

theorem rows_disjoint {a n b k : ℕ} (h : a + n ≤ b ∨ b + k ≤ a) : Disjoint (rows a n) (rows b k) := by
  rw [Finset.disjoint_left]; intro i hi hj; rw [mem_rows] at hi hj; omega

theorem rows_subset {a n b k : ℕ} (h : b ≤ a ∧ a + n ≤ b + k) : rows a n ⊆ rows b k := by
  intro i hi; rw [mem_rows] at hi ⊢; omega

theorem rows_all : rows 0 4096 = Finset.univ := by
  ext i; rw [mem_rows]
  have : (i 0).val < 4096 := (i 0).isLt
  simp only [Finset.mem_univ, iff_true]; omega

/-- Moving an element from row `a + r` to row `b + r`. -/
def shift (a b : ℕ) (i : S4096x1024.Idx) : S4096x1024.Idx :=
  fun d => match d with
    | ⟨0, _⟩ => (Fin.ofNat 4096 ((i 0).val - a + b) : Fin 4096)
    | ⟨1, _⟩ => (i 1 : Fin 1024)

theorem shift_self {a n : ℕ} {i : S4096x1024.Idx} (h : i ∈ rows a n) : shift a a i = i := by
  rw [mem_rows] at h
  have : (i 0).val < 4096 := (i 0).isLt
  funext d
  match d with
  | ⟨0, _⟩ => refine Fin.ext ?_; show ((i 0).val - a + a) % 4096 = (i 0).val; rw [Nat.mod_eq_of_lt] <;> omega
  | ⟨1, _⟩ => rfl

theorem shift_row (a b : ℕ) (i : S4096x1024.Idx) (h : (i 0).val - a + b < 4096) : (shift a b i 0).val = (i 0).val - a + b :=
  Nat.mod_eq_of_lt h

theorem shift_shift {a b b' d n : ℕ} {i : S4096x1024.Idx} (h : i ∈ rows a n) (hb : b + n ≤ 4096) (hb' : b' ≤ b) :
    shift b' d (shift a b i) = shift a (b - b' + d) i := by
  rw [mem_rows] at h
  funext x
  match x with
  | ⟨0, _⟩ =>
    refine Fin.ext ?_
    show ((shift a b i 0).val - b' + d) % 4096 = ((i 0).val - a + (b - b' + d)) % 4096
    rw [shift_row a b i (by omega)]; congr 1; omega
  | ⟨1, _⟩ => rfl

/-! ## The three buffers and windows of rows in them -/

/-- The argument, the result and the receive buffer. -/
abbrev xM : Memref sig .tc .vmem S4096x1024 .f32 := Memref.whole cc0_stg0_0
abbrev oM : Memref sig .tc .vmem S4096x1024 .f32 := Memref.whole cc0_stg1_0
abbrev rM : Memref sig .tc .vmem S4096x1024 .f32 := Memref.whole cc0_scratch0

/-- A window of `n` full rows from row `a`. -/
theorem unit_set (off size : Fin 2 → ℕ) (inb : ∀ d, off d + size d ≤ S4096x1024.size d) {a n : ℕ}
    (ho : off = ![a, 0]) (hs : size = ![n, 1024]) :
    (Rect.unit (s := S4096x1024) off size inb).set = rows a n := by
  subst ho hs
  ext i
  rw [Rect.mem_set_unit, mem_rows]
  constructor
  · intro h; exact h 0
  · intro h d
    match d with
    | ⟨0, _⟩ => exact h
    | ⟨1, _⟩ => exact ⟨Nat.zero_le _, by have := (i 1).isLt; simpa using this⟩

/-- The element of such a window at a place, moved to a window that starts at row `b`. -/
theorem emb_unit (off size : Fin 2 → ℕ) (inb : ∀ d, off d + size d ≤ S4096x1024.size d)
    (off' : Fin 2 → ℕ) (inb' : ∀ d, off' d + size d ≤ S4096x1024.size d) {a b : ℕ}
    (ho : off = ![a, 0]) (ho' : off' = ![b, 0]) (j : (Rect.unit (s := S4096x1024) off size inb).shape.Idx) :
    (Rect.unit (s := S4096x1024) off' size inb').emb j = shift a b ((Rect.unit (s := S4096x1024) off size inb).emb j) := by
  subst ho ho'
  funext d
  match d with
  | ⟨0, _⟩ =>
    refine Fin.ext ?_
    have h0 : b + size 0 ≤ 4096 := inb' 0
    have hj : (j 0).val < size 0 := (j 0).isLt
    show b + 1 * (j 0).val = (a + 1 * (j 0).val - a + b) % 4096
    rw [Nat.mod_eq_of_lt] <;> omega
  | ⟨1, _⟩ => rfl

end Cert.KernelProof

end
-- ==== Proof.Contents.lean ====
/-
# What the buffers hold

The values the kernel computes, as functions of the devices' arguments `X`, and the ownership of a set of rows of one
of the three buffers. `sum1`, `sum2`, `sum3` are the partial sums after the first, second and third halving; `total`
picks, for each row, the finished sum of the device that keeps that row. `land` says what a transfer of the summing
phase leaves in the receive buffer.
-/
module

public import proofs.«01_k».proof.Proof.Geometry

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources

The launch's own bookkeeping, and that of the kernel's handshakes, whose duties are named by the three axes. -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The values -/

section Values
variable (X : Dev nD → Cont F)

/-- After the first halving: a device's own rows plus those of its mate. -/
def sum1 (p : Fin 6) (c : Dev nD) : Cont F := addf (F := F) (φ := .f32) (X c) (X (mate p 0 c))
def sum2 (p : Fin 6) (c : Dev nD) : Cont F := addf (F := F) (φ := .f32) (sum1 X p c) (sum1 X p (mate p 1 c))
def sum3 (p : Fin 6) (c : Dev nD) : Cont F := addf (F := F) (φ := .f32) (sum2 X p c) (sum2 X p (mate p 2 c))

/-- The part and the device whose finished eighth holds a row. -/
def Holds (i : S4096x1024.Idx) (pc : Fin 6 × Dev nD) : Prop := i ∈ rows (keep3 pc.1 pc.2) (l3 pc.1)

theorem eighths_apart : ∀ a b : Fin 6 × Dev nD, a ≠ b →
    keep3 a.1 a.2 + l3 a.1 ≤ keep3 b.1 b.2 ∨ keep3 b.1 b.2 + l3 b.1 ≤ keep3 a.1 a.2 := by decide +kernel

theorem Holds.unique {i : S4096x1024.Idx} {a b : Fin 6 × Dev nD} (ha : Holds i a) (hb : Holds i b) : a = b := by
  by_contra h
  exact Finset.disjoint_left.mp (rows_disjoint (eighths_apart a b h)) ha hb

open Classical in
/-- The finished sum at each row. -/
def total : Cont F := fun i =>
  if h : ∃ pc, Holds i pc then sum3 X h.choose.1 h.choose.2 i else X 0 i

theorem total_eq {p : Fin 6} {c : Dev nD} {i : S4096x1024.Idx} (h : i ∈ rows (keep3 p c) (l3 p)) :
    total X i = sum3 X p c i := by
  have hx : ∃ pc, Holds i pc := ⟨(p, c), h⟩
  unfold total
  rw [dif_pos hx, Holds.unique hx.choose_spec (show Holds i (p, c) from h)]

/-- What a transfer of the summing phase carries: the sender's rows before, after one and after two halvings. -/
def carried (p : Fin 6) (k : Fin 3) (c : Dev nD) : Cont F := ![X c, sum1 X p c, sum2 X p c] k

/-- What lands in the receive buffer of `c` at the `k`-th halving. -/
def land (p : Fin 6) (k : Fin 3) (c : Dev nD) : Cont F := fun i =>
  carried X p k (mate p k c) (shift (comRow p k) (![keep1 p c, keep2 p c, keep3 p c] k) i)

end Values

/-! ## Ownership of rows -/

/-- A share `q` of a set of elements of the argument, result and receive buffer of `c`, holding `f`. -/
def ptX (c : Dev nD) (I : Finset S4096x1024.Idx) (q : PosShare TreeShare) (f : Cont F) : sProp 𝕄 :=
  xM.view.loc (c : Thread nD τ) ↦[I]{q} f
def ptO (c : Dev nD) (I : Finset S4096x1024.Idx) (q : PosShare TreeShare) (f : Cont F) : sProp 𝕄 :=
  oM.view.loc (c : Thread nD τ) ↦[I]{q} f
def ptR (c : Dev nD) (I : Finset S4096x1024.Idx) (q : PosShare TreeShare) (f : Cont F) : sProp 𝕄 :=
  rM.view.loc (c : Thread nD τ) ↦[I]{q} f

/-- The same in full, at some contents. -/
def anyO (c : Dev nD) (I : Finset S4096x1024.Idx) : sProp 𝕄 := iprop(∃ f, ptO (F := F) c I fullShare f)
def anyR (c : Dev nD) (I : Finset S4096x1024.Idx) : sProp 𝕄 := iprop(∃ f, ptR (F := F) c I fullShare f)

section Storable
omit [FloatOps F]
instance ptX_storable (c : Dev nD) (I) (q) (f) : BI.Storable (upEmb : UEmb _ 𝕄) (ptX (F := F) c I q f) := by
  unfold ptX; infer_instance
instance ptO_storable (c : Dev nD) (I) (q) (f) : BI.Storable (upEmb : UEmb _ 𝕄) (ptO (F := F) c I q f) := by
  unfold ptO; infer_instance
instance ptR_storable (c : Dev nD) (I) (q) (f) : BI.Storable (upEmb : UEmb _ 𝕄) (ptR (F := F) c I q f) := by
  unfold ptR; infer_instance
instance anyO_storable (c : Dev nD) (I) : BI.Storable (upEmb : UEmb _ 𝕄) (anyO (F := F) c I) := by
  unfold anyO; infer_instance
instance anyR_storable (c : Dev nD) (I) : BI.Storable (upEmb : UEmb _ 𝕄) (anyR (F := F) c I) := by
  unfold anyR; infer_instance
end Storable

section Pts
omit [FloatOps F]

theorem ptO_congr {c : Dev nD} {I : Finset S4096x1024.Idx} {q : PosShare TreeShare} {f g : Cont F}
    (h : ∀ i ∈ I, f i = g i) : ptO (F := F) c I q f = ptO c I q g := pointsTo_congr h
theorem ptR_congr {c : Dev nD} {I : Finset S4096x1024.Idx} {q : PosShare TreeShare} {f g : Cont F}
    (h : ∀ i ∈ I, f i = g i) : ptR (F := F) c I q f = ptR c I q g := pointsTo_congr h

theorem ptX_union {c : Dev nD} {I J : Finset S4096x1024.Idx} {q : PosShare TreeShare} {f : Cont F} (h : Disjoint I J) :
    ptX (F := F) c (I ∪ J) q f = iprop(ptX c I q f ∗ ptX c J q f) := BI.equiv_iff.mp ⟨(pointsTo_union h).1, (pointsTo_union h).2⟩
theorem ptO_union {c : Dev nD} {I J : Finset S4096x1024.Idx} {q : PosShare TreeShare} {f : Cont F} (h : Disjoint I J) :
    ptO (F := F) c (I ∪ J) q f = iprop(ptO c I q f ∗ ptO c J q f) := BI.equiv_iff.mp ⟨(pointsTo_union h).1, (pointsTo_union h).2⟩
theorem ptR_union {c : Dev nD} {I J : Finset S4096x1024.Idx} {q : PosShare TreeShare} {f : Cont F} (h : Disjoint I J) :
    ptR (F := F) c (I ∪ J) q f = iprop(ptR c I q f ∗ ptR c J q f) := BI.equiv_iff.mp ⟨(pointsTo_union h).1, (pointsTo_union h).2⟩

/-- The full share is its two halves. -/
theorem ptO_halves {c : Dev nD} {I : Finset S4096x1024.Idx} {f : Cont F} :
    ptO (F := F) c I fullShare f = iprop(ptO c I fullShare.left f ∗ ptO c I fullShare.right f) :=
  BI.equiv_iff.mp ⟨(pointsTo_share (PosShare.mem_left_op_right fullShare)).1, (pointsTo_share (PosShare.mem_left_op_right fullShare)).2⟩

end Pts

end Cert.KernelProof

end
-- ==== Proof.Schedule.lean ====
/-
# The handshakes

Every device has an entry and an exit barrier counter, and for each part's eight transfers a send and a receive
counter. Each is used once. This file says who raises which counter by how much, and which rows of which buffer pass
to the waiter with it.

* A device's entry signal along an axis hands its mate the regions of its receive buffer that the mate will write, and
  the rows of its result that the mate will finish.
* A receive counter hands over the rows that have landed. In the summing phase it also hands over the sender's own rows:
  the sender has no more use for them until the finished sum comes back into them.
* A send counter gives back the rows that were read, where they were not handed over.
-/
module

public import proofs.«01_k».proof.Proof.Contents

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The counters -/

/-- The two barriers (`false` entry, `true` exit), and the transfers' counters (`false` send, `true` receive). -/
abbrev Kind : Type := Bool ⊕ (Bool × Fin 6 × Fin 8)

abbrev barS : Sem sig := (SemArray.scalar (sig.barrier 0 rfl) : Sems sig S_).sem
abbrev endS : Sem sig := cc0_scoped0.sem

/-- Where a transfer's counters lie. -/
def sendIx (p : Fin 6) (e : Fin 8) : DmaSem sig :=
  (Fin.ofNat 98 (if e.val < 3 then 2 + 3 * p.val + e.val else 38 + 5 * p.val + (e.val - 3)) : Fin 98)
def recvIx (p : Fin 6) (e : Fin 8) : DmaSem sig :=
  (Fin.ofNat 98 (if e.val < 3 then 20 + 3 * p.val + e.val else 68 + 5 * p.val + (e.val - 3)) : Fin 98)

def csem : Kind → SemLoc sig
  | .inl false => .reg barS
  | .inl true => .reg endS
  | .inr (false, p, e) => .dma (sendIx p e)
  | .inr (true, p, e) => .dma (recvIx p e)

theorem csem_inj : ∀ a b : Kind, csem a = csem b → a = b := by decide +kernel

abbrev cell (c : Dev nD) (k : Kind) : GSem nD τ sig := ((c : Thread nD τ), csem k)
abbrev barCell (c : Dev nD) : GSem nD τ sig := cell c (.inl false)
abbrev endCell (c : Dev nD) : GSem nD τ sig := cell c (.inl true)
abbrev sendCell (c : Dev nD) (p : Fin 6) (e : Fin 8) : GSem nD τ sig := cell c (.inr (false, p, e))
abbrev recvCell (c : Dev nD) (p : Fin 6) (e : Fin 8) : GSem nD τ sig := cell c (.inr (true, p, e))

theorem cell_inj {c c' : Dev nD} {k k' : Kind} (h : cell c k = cell c' k') : c = c' ∧ k = k' := by
  have h1 : (c : Thread nD τ) = (c' : Thread nD τ) := congrArg Prod.fst h
  exact ⟨congrArg Prod.fst h1, csem_inj _ _ (congrArg Prod.snd h)⟩

open Classical in
/-- Which of the kernel's counters a counter is, if any. -/
def kindOf (sm : SemLoc sig) : Option Kind := if h : ∃ k, csem k = sm then some h.choose else none

theorem kindOf_csem (k : Kind) : kindOf (csem k) = some k := by
  have h : ∃ k', csem k' = csem k := ⟨k, rfl⟩
  unfold kindOf; rw [dif_pos h]; exact congrArg some (csem_inj _ _ h.choose_spec)

/-- What a transfer of `n` full rows counts. -/
def credit (n : ℕ) : ℕ := sig.dmaCredit .tc ((Proc.kind (.tc : Proc τ)).table .vmem) oM.view.buf ⟨2, ![n, 1024]⟩ .f32

theorem credit_x (n : ℕ) : sig.dmaCredit .tc ((Proc.kind (.tc : Proc τ)).table .vmem) xM.view.buf ⟨2, ![n, 1024]⟩ .f32 = credit n := rfl
theorem credit_r (n : ℕ) : sig.dmaCredit .tc ((Proc.kind (.tc : Proc τ)).table .vmem) rM.view.buf ⟨2, ![n, 1024]⟩ .f32 = credit n := rfl

/-- What each counter is raised by, per signal or transfer. -/
def amt : Kind → ℕ
  | .inl _ => 1
  | .inr (_, p, e) => credit (len p e)

theorem len_pos : ∀ p e, 0 < len p e := by decide

theorem credit_pos {n : ℕ} (h : 0 < n) : 0 < credit n :=
  sig.dmaCredit_pos _ _ _ _ _ (Shape.numel_pos fun a => by fin_cases a; exacts [h, (show 0 < 1024 by decide)])

theorem amt_pos (k : Kind) : 0 < amt k := by
  match k with
  | .inl _ => exact Nat.one_pos
  | .inr (_, p, e) => exact credit_pos (len_pos p e)

/-! ## What passes at each counter -/

section Pay
variable (X : Dev nD → Cont F)

/-- On which of its legs a part crosses an axis. -/
def legAt : Fin 6 → Fin 3 → Fin 3 :=
  ![![0, 1, 2], ![0, 1, 2], ![2, 0, 1], ![2, 0, 1], ![1, 2, 0], ![1, 2, 0]]
theorem axis_legAt : ∀ p d, axis p (legAt p d) = d := by decide
theorem legAt_axis : ∀ p k, legAt p (axis p k) = k := by decide

/-- What a part's mate on leg `k` gives `c` at entry: its receive region for that leg, and on the first leg the two
    quarters of its result that `c` will finish. -/
def given (p : Fin 6) (c : Dev nD) : Fin 3 → sProp 𝕄
  | 0 => iprop(anyR (F := F) (mate p 0 c) (rows (comRow p 0) (comLen p 0))
      ∗ anyO (F := F) (mate p 0 c) (rows (keep2 p c) (l2 p)) ∗ anyO (F := F) (mate p 0 c) (rows (sib2 p c) (l2 p)))
  | 1 => anyR (F := F) (mate p 1 c) (rows (comRow p 1) (comLen p 1))
  | 2 => anyR (F := F) (mate p 2 c) (rows (comRow p 2) (comLen p 2))

/-- What the entry signal along the axis `d` brings `c`. -/
def barPay (c : Dev nD) (d : Fin 3) : sProp 𝕄 := bigSep Finset.univ fun p => given (F := F) p c (legAt p d)

/-- What the send counter gives back. -/
def sendPay (p : Fin 6) (c : Dev nD) : Fin 8 → sProp 𝕄
  | 0 => ptX c (rows (sib1 p c) (l1 p)) fullShare (X c)
  | 1 => iprop(emp)
  | 2 => iprop(emp)
  | 3 => ptO c (rows (keep3 p c) (l3 p)) fullShare.left (total X)
  | 4 => ptO c (rows (keep3 p c) (l3 p)) fullShare.right (total X)
  | 5 => ptO c (rows (sib3 p c) (l3 p)) fullShare.right (total X)
  | 6 => ptO c (rows (keep2 p c) (l2 p)) fullShare.left (total X)
  | 7 => ptO c (rows (sib2 p c) (l2 p)) fullShare (total X)

/-- What the receive counter brings. -/
def recvPay (p : Fin 6) (c : Dev nD) : Fin 8 → sProp 𝕄
  | 0 => ptR c (rows (comRow p 0) (comLen p 0)) fullShare (land X p 0 c)
  | 1 => iprop(ptR c (rows (comRow p 1) (comLen p 1)) fullShare (land X p 1 c) ∗ anyO (F := F) (mate p 1 c) (rows (keep2 p c) (l2 p)))
  | 2 => iprop(ptR c (rows (comRow p 2) (comLen p 2)) fullShare (land X p 2 c) ∗ anyO (F := F) (mate p 2 c) (rows (keep3 p c) (l3 p)))
  | 3 => ptO c (rows (sib3 p c) (l3 p)) fullShare (total X)
  | 4 => ptO c (rows (far3a p c) (l3 p)) fullShare (total X)
  | 5 => ptO c (rows (far3b p c) (l3 p)) fullShare (total X)
  | 6 => ptO c (rows (far2a p c) (l2 p)) fullShare (total X)
  | 7 => ptO c (rows (far2b p c) (l2 p)) fullShare (total X)

instance given_storable (p c k) : BI.Storable (upEmb : UEmb _ 𝕄) (given (F := F) p c k) := by
  match k with
  | 0 | 1 | 2 => unfold given; infer_instance
instance barPay_storable (c d) : BI.Storable (upEmb : UEmb _ 𝕄) (barPay (F := F) c d) := by
  unfold barPay; infer_instance
instance sendPay_storable (p c e) : BI.Storable (upEmb : UEmb _ 𝕄) (sendPay X p c e) := by
  match e with
  | 0 | 1 | 2 | 3 | 4 | 5 | 6 | 7 => unfold sendPay; infer_instance
instance recvPay_storable (p c e) : BI.Storable (upEmb : UEmb _ 𝕄) (recvPay X p c e) := by
  match e with
  | 0 | 1 | 2 | 3 | 4 | 5 | 6 | 7 => unfold recvPay; infer_instance

def pay (c : Dev nD) : Kind → Fin 3 → sProp 𝕄
  | .inl false, d => barPay (F := F) c d
  | .inl true, _ => iprop(emp)
  | .inr (false, p, e), _ => sendPay X p c e
  | .inr (true, p, e), _ => recvPay X p c e

instance pay_storable (c k d) : BI.Storable (upEmb : UEmb _ 𝕄) (pay X c k d) := by
  match k with
  | .inl false | .inl true | .inr (false, p, e) | .inr (true, p, e) => unfold pay; infer_instance

/-- Who raises a counter: one mate along each axis for a barrier, the one transfer otherwise. -/
def dutiesOf : Kind → Finset (Fin 3)
  | .inl _ => Finset.univ
  | .inr _ => {0}

/-- The schedule: every counter has one round. -/
def hs : Rounds.Schedule (GSem nD τ sig) (Fin 3) 𝕄 where
  duties g r := if r = 0 ∧ g.1.2 = .tc then (kindOf g.2).elim ∅ dutiesOf else ∅
  unitless _ := False
  amount g _ _ := (kindOf g.2).elim 1 amt
  payload g _ d := (kindOf g.2).elim iprop(emp) fun k => pay X g.1.1 k d
  amount_pos g _ _ _ := by
    rcases kindOf g.2 with _ | k
    · exact Nat.one_pos
    · exact amt_pos k

instance hs_payload_storable (g : GSem nD τ sig) (r : ℕ) (d : Fin 3) :
    BI.Storable (upEmb : UEmb _ 𝕄) ((hs X).payload g r d) := by
  show BI.Storable upEmb ((kindOf g.2).elim iprop(emp) fun k => pay X g.1.1 k d)
  rcases kindOf g.2 with _ | k
  · show BI.Storable upEmb iprop(emp); infer_instance
  · exact pay_storable X g.1.1 k d

theorem duties_cell (c : Dev nD) (k : Kind) : (hs X).duties (cell c k) 0 = dutiesOf k := by
  show (if (0 : ℕ) = 0 ∧ (cell c k).1.2 = .tc then (kindOf (csem k)).elim ∅ dutiesOf else ∅) = _
  rw [if_pos ⟨rfl, rfl⟩, kindOf_csem]; rfl
theorem duties_later (g : GSem nD τ sig) (r : ℕ) (h : 1 ≤ r) : (hs X).duties g r = ∅ :=
  if_neg fun h' => by omega
theorem amount_cell (c : Dev nD) (k : Kind) (r : ℕ) (d : Fin 3) : (hs X).amount (cell c k) r d = amt k := by
  show (kindOf (csem k)).elim 1 amt = _
  rw [kindOf_csem]; rfl
theorem payload_cell (c : Dev nD) (k : Kind) (r : ℕ) (d : Fin 3) : (hs X).payload (cell c k) r d = pay X c k d := by
  show (kindOf (csem k)).elim iprop(emp) (fun k => pay X c k d) = _
  rw [kindOf_csem]; rfl

theorem expect_bar (c : Dev nD) (b : Bool) : (hs X).expect (cell c (.inl b)) 0 = 3 := by
  unfold Schedule.expect Schedule.amountOf
  rw [duties_cell, Finset.sum_congr rfl fun d _ => amount_cell X c _ 0 d]; rfl
theorem expect_dma (c : Dev nD) (b : Bool) (p : Fin 6) (e : Fin 8) :
    (hs X).expect (cell c (.inr (b, p, e))) 0 = credit (len p e) := by
  unfold Schedule.expect Schedule.amountOf
  rw [duties_cell, Finset.sum_congr rfl fun d _ => amount_cell X c _ 0 d]; exact Finset.sum_singleton _ _

theorem rest_bar (c : Dev nD) (b : Bool) :
    bigSep ((hs X).duties (cell c (.inl b)) 0 \ ∅) (fun d => (hs X).payload (cell c (.inl b)) 0 d)
      = bigSep Finset.univ fun d => pay X c (.inl b) d := by
  rw [Finset.sdiff_empty, duties_cell]; exact bigSep_congr fun d _ => payload_cell X c _ 0 d
theorem rest_dma (c : Dev nD) (b : Bool) (p : Fin 6) (e : Fin 8) :
    bigSep ((hs X).duties (cell c (.inr (b, p, e))) 0 \ ∅) (fun d => (hs X).payload (cell c (.inr (b, p, e))) 0 d)
      = pay X c (.inr (b, p, e)) 0 := by
  rw [Finset.sdiff_empty, duties_cell]; show bigSep {0} _ = _; rw [bigSep_singleton, payload_cell]

end Pay

/-! ## Levels: what may still be owed while a device waits

A device waits at a counter only while everything it still owes is at a higher level. -/

def recvLv : Fin 8 → ℕ := ![2, 3, 4, 5, 6, 6, 7, 7]

def lvOf : Kind → ℕ
  | .inl false => 1
  | .inl true => 8
  | .inr (false, _, _) => 0
  | .inr (true, _, e) => recvLv e

def L (g : GSem nD τ sig) : Finset Unit := if g.1.2 = .tc then {()} else ∅
def lv (g : GSem nD τ sig) (_ : Unit) : ℕ := (kindOf g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kind) : lv (cell c k) () = lvOf k := by
  unfold lv; rw [show (cell c k).2 = csem k from rfl, kindOf_csem]; rfl

end Cert.KernelProof

end
-- ==== Proof.Book.lean ====
/-
# A part's memory, step by step

Each part takes 29 steps on every device: eight transfers started, sixteen waits, five stores. `Mem X p c t` lists the
rows that device `c` owns for part `p` after `t / 2` steps; an odd `t` is the moment inside a store at which the stored
rows are taken out. The lemmas say what each step takes from the list and puts into it.
-/
module

public import proofs.«01_k».proof.Proof.Schedule

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Splitting rows -/

section Split
variable (p : Fin 6) (c : Dev nD)

/-- Two neighbouring blocks of `n` rows, in either order. -/
theorem rows_pair (a n h : ℕ) (hh : h = 0 ∨ h = 1) :
    rows a (2 * n) = rows (a + h * n) n ∪ rows (a + (1 - h) * n) n
      ∧ Disjoint (rows (a + h * n) n) (rows (a + (1 - h) * n) n) := by
  rcases hh with rfl | rfl
  · refine ⟨?_, rows_disjoint (by omega)⟩
    simp only [Nat.zero_mul, Nat.add_zero, Nat.sub_zero, Nat.one_mul, Nat.two_mul]
    exact rows_union a n n
  · refine ⟨?_, rows_disjoint (by omega)⟩
    simp only [Nat.zero_mul, Nat.add_zero, Nat.sub_self, Nat.one_mul, Nat.two_mul]
    rw [Finset.union_comm]; exact rows_union a n n

theorem keep2_split : rows (keep2 p c) (l2 p) = rows (keep3 p c) (l3 p) ∪ rows (sib3 p c) (l3 p)
    ∧ Disjoint (rows (keep3 p c) (l3 p)) (rows (sib3 p c) (l3 p)) := rows_pair _ _ _ (bit_cases p 2 c)
theorem sib2_split : rows (sib2 p c) (l2 p) = rows (far3a p c) (l3 p) ∪ rows (far3b p c) (l3 p)
    ∧ Disjoint (rows (far3a p c) (l3 p)) (rows (far3b p c) (l3 p)) := rows_pair _ _ _ (bit_cases p 2 c)
theorem l1_eq : l1 p = 2 * l2 p := by unfold l1 l2; omega
theorem keep1_split : rows (keep1 p c) (l1 p) = rows (keep2 p c) (l2 p) ∪ rows (sib2 p c) (l2 p)
    ∧ Disjoint (rows (keep2 p c) (l2 p)) (rows (sib2 p c) (l2 p)) := by
  rw [l1_eq]; exact rows_pair _ _ _ (bit_cases p 1 c)
theorem sib1_split : rows (sib1 p c) (l1 p) = rows (far2a p c) (l2 p) ∪ rows (far2b p c) (l2 p)
    ∧ Disjoint (rows (far2a p c) (l2 p)) (rows (far2b p c) (l2 p)) := by
  rw [l1_eq]; exact rows_pair _ _ _ (bit_cases p 1 c)
theorem part_split : rows (base p) (2 * l1 p) = rows (keep1 p c) (l1 p) ∪ rows (sib1 p c) (l1 p)
    ∧ Disjoint (rows (keep1 p c) (l1 p)) (rows (sib1 p c) (l1 p)) := rows_pair _ _ _ (bit_cases p 0 c)

omit [FloatOps F]
variable (d : Dev nD) (q : PosShare TreeShare) (f : Cont F)

theorem ptO_keep2 : ptO d (rows (keep2 p c) (l2 p)) q f
    = iprop(ptO d (rows (keep3 p c) (l3 p)) q f ∗ ptO d (rows (sib3 p c) (l3 p)) q f) := by
  rw [(keep2_split p c).1, ptO_union (keep2_split p c).2]
theorem ptO_sib2 : ptO d (rows (sib2 p c) (l2 p)) q f
    = iprop(ptO d (rows (far3a p c) (l3 p)) q f ∗ ptO d (rows (far3b p c) (l3 p)) q f) := by
  rw [(sib2_split p c).1, ptO_union (sib2_split p c).2]

theorem anyO_split {I J K : Finset S4096x1024.Idx} (h : I = J ∪ K ∧ Disjoint J K) :
    anyO (F := F) d I ⊢ iprop(anyO (F := F) d J ∗ anyO (F := F) d K) := by
  unfold anyO
  iintro ⟨%f, H⟩
  ihave H := (Entails.of_eq (show ptO d I fullShare f = iprop(ptO d J fullShare f ∗ ptO d K fullShare f) by
    rw [h.1, ptO_union h.2])) $$ H
  icases H with ⟨H1, H2⟩
  isplitl [H1]
  · iexists f; iexact H1
  · iexists f; iexact H2

end Split

/-! ## The list -/

/-- The order in which rows are listed does not matter. -/
local instance : Std.Commutative (α := sProp 𝕄) BIBase.sep := ⟨fun P Q => BI.equiv_iff.mp ⟨BI.sep_comm, BI.sep_comm⟩⟩
local instance : Std.Associative (α := sProp 𝕄) BIBase.sep := ⟨fun P Q R => BI.equiv_iff.mp ⟨BI.sep_assoc, BI.sep_assoc'⟩⟩
theorem sep_none (P : sProp 𝕄) : iprop(P ∗ emp) = P := BI.equiv_iff.mp BI.sep_emp
theorem none_sep (P : sProp 𝕄) : iprop(emp ∗ P) = P := BI.equiv_iff.mp BI.emp_sep

/-- `P` while `b` holds, nothing otherwise. -/
def on (b : Bool) (P : sProp 𝕄) : sProp 𝕄 := bif b then P else iprop(emp)

theorem on_true (P : sProp 𝕄) : on true P = P := rfl
theorem on_false (P : sProp 𝕄) : on false P = iprop(emp) := rfl
theorem sep_swap (P Q R : sProp 𝕄) : iprop(P ∗ Q ∗ R) = iprop(Q ∗ P ∗ R) := by ac_rfl

section Lists
variable (X : Dev nD → Cont F) (p : Fin 6) (c : Dev nD)

/-- The device's rows of its own three buffers and, until it has written them, of its mates'. -/
def MemRest (t : ℕ) : sProp 𝕄 := iprop(
  on (t < 2 ∨ 4 ≤ t) (ptX c (rows (sib1 p c) (l1 p)) fullShare (X c))
  ∗ anyR (F := F) c (rows (base p + 7 * l3 p) (l3 p))
  ∗ on (t < 2) (anyR (F := F) (mate p 0 c) (rows (comRow p 0) (comLen p 0)))
  ∗ on (t < 10) (anyR (F := F) (mate p 1 c) (rows (comRow p 1) (comLen p 1)))
  ∗ on (t < 20) (anyR (F := F) (mate p 2 c) (rows (comRow p 2) (comLen p 2)))
  ∗ on (t < 7) (anyO (F := F) c (rows (sib2 p c) (l2 p)))
  ∗ on (8 ≤ t ∧ t < 9) (ptO c (rows (sib2 p c) (l2 p)) fullShare (sum1 X p c))
  ∗ on (t < 11) (anyO (F := F) c (rows (keep2 p c) (l2 p)))
  ∗ on (12 ≤ t ∧ t < 21) (ptO c (rows (keep3 p c) (l3 p)) fullShare (sum1 X p c))
  ∗ on (22 ≤ t ∧ t < 27) (ptO c (rows (keep3 p c) (l3 p)) fullShare (sum2 X p c))
  ∗ on (28 ≤ t ∧ t < 30 ∨ 34 ≤ t ∧ t < 40 ∨ 52 ≤ t) (ptO c (rows (keep3 p c) (l3 p)) fullShare.left (total X))
  ∗ on (28 ≤ t ∧ t < 32 ∨ 42 ≤ t) (ptO c (rows (keep3 p c) (l3 p)) fullShare.right (total X))
  ∗ on (12 ≤ t ∧ t < 17) (ptO c (rows (sib3 p c) (l3 p)) fullShare (sum1 X p c))
  ∗ on (18 ≤ t ∧ t < 19) (ptO c (rows (sib3 p c) (l3 p)) fullShare (sum2 X p c))
  ∗ on (36 ≤ t ∧ t < 40 ∨ 52 ≤ t) (ptO c (rows (sib3 p c) (l3 p)) fullShare.left (total X))
  ∗ on (36 ≤ t ∧ t < 38 ∨ 46 ≤ t) (ptO c (rows (sib3 p c) (l3 p)) fullShare.right (total X))
  ∗ on (44 ≤ t ∧ t < 50 ∨ 56 ≤ t) (ptO c (rows (far3a p c) (l3 p)) fullShare (total X))
  ∗ on (48 ≤ t ∧ t < 50 ∨ 56 ≤ t) (ptO c (rows (far3b p c) (l3 p)) fullShare (total X))
  ∗ on (54 ≤ t) (ptO c (rows (far2a p c) (l2 p)) fullShare (total X))
  ∗ on (58 ≤ t) (ptO c (rows (far2b p c) (l2 p)) fullShare (total X))
  ∗ on (t < 40) (anyO (F := F) (mate p 0 c) (rows (keep2 p c) (l2 p)))
  ∗ on (t < 50) (anyO (F := F) (mate p 0 c) (rows (sib2 p c) (l2 p)))
  ∗ on (16 ≤ t ∧ t < 32) (anyO (F := F) (mate p 1 c) (rows (keep3 p c) (l3 p)))
  ∗ on (16 ≤ t ∧ t < 38) (anyO (F := F) (mate p 1 c) (rows (sib3 p c) (l3 p)))
  ∗ on (26 ≤ t ∧ t < 30) (anyO (F := F) (mate p 2 c) (rows (keep3 p c) (l3 p))))

/-- Those rows, with the ones only read by the stores set in front: the kept half of the argument, and what has
    landed. -/
def Mem (t : ℕ) : sProp 𝕄 := iprop(
  ptX c (rows (keep1 p c) (l1 p)) fullShare (X c)
  ∗ on (6 ≤ t) (ptR c (rows (comRow p 0) (comLen p 0)) fullShare (land X p 0 c))
  ∗ on (16 ≤ t) (ptR c (rows (comRow p 1) (comLen p 1)) fullShare (land X p 1 c))
  ∗ on (26 ≤ t) (ptR c (rows (comRow p 2) (comLen p 2)) fullShare (land X p 2 c))
  ∗ MemRest X p c t)

/-- The rows, not yet written, that a transfer of `c` goes into. -/
def dstAny : Fin 8 → sProp 𝕄
  | 0 => anyR (F := F) (mate p 0 c) (rows (comRow p 0) (comLen p 0))
  | 1 => anyR (F := F) (mate p 1 c) (rows (comRow p 1) (comLen p 1))
  | 2 => anyR (F := F) (mate p 2 c) (rows (comRow p 2) (comLen p 2))
  | 3 => anyO (F := F) (mate p 2 c) (rows (keep3 p c) (l3 p))
  | 4 => anyO (F := F) (mate p 1 c) (rows (keep3 p c) (l3 p))
  | 5 => anyO (F := F) (mate p 1 c) (rows (sib3 p c) (l3 p))
  | 6 => anyO (F := F) (mate p 0 c) (rows (keep2 p c) (l2 p))
  | 7 => anyO (F := F) (mate p 0 c) (rows (sib2 p c) (l2 p))

/-- The rows a transfer of `c` reads, in the share it reads them at. -/
def srcOf : Fin 8 → sProp 𝕄
  | 1 => ptO c (rows (sib2 p c) (l2 p)) fullShare (sum1 X p c)
  | 2 => ptO c (rows (sib3 p c) (l3 p)) fullShare (sum2 X p c)
  | e => sendPay X p c e

end Lists

/-! ## The steps -/

/-- The steps at which a part's transfers are started, at which they have left, and at which those of the mates have
    arrived. -/
def sentAt : Fin 8 → ℕ
  | 0 => 1 | 1 => 5 | 2 => 10 | 3 => 15 | 4 => 16 | 5 => 19 | 6 => 20 | 7 => 25
def goneAt : Fin 8 → ℕ
  | 0 => 2 | 1 => 7 | 2 => 12 | 3 => 17 | 4 => 21 | 5 => 23 | 6 => 26 | 7 => 28
def gotAt : Fin 8 → ℕ
  | 0 => 3 | 1 => 8 | 2 => 13 | 3 => 18 | 4 => 22 | 5 => 24 | 6 => 27 | 7 => 29

section Steps
variable (X : Dev nD → Cont F) (p : Fin 6) (c : Dev nD)

theorem mem_send : ∀ e, Mem X p c (2 * (sentAt e - 1))
    = iprop(srcOf X p c e ∗ dstAny (F := F) p c e ∗ Mem X p c (2 * sentAt e))
  | 0 | 1 | 2 | 3 | 4 | 5 | 6 | 7 => by
    simp only [Mem, MemRest, sendPay, dstAny, srcOf, sentAt, on_true, on_false, none_sep, sep_none, decide_true, decide_false,
      _root_.or_true, _root_.true_or, _root_.or_false, _root_.false_or, _root_.and_true, _root_.true_and, _root_.and_false, _root_.false_and, Nat.reduceMul, Nat.reduceSub, Nat.reduceLT, Nat.reduceLeDiff,
      ptO_keep2 p c c, ptO_sib2 p c c]
    ac_rfl

theorem mem_gone : ∀ e, iprop(sendPay X p c e ∗ Mem X p c (2 * (goneAt e - 1))) = Mem X p c (2 * goneAt e)
  | 0 | 1 | 2 | 3 | 4 | 5 | 6 | 7 => by
    simp only [Mem, MemRest, sendPay, goneAt, on_true, on_false, none_sep, sep_none, decide_true, decide_false,
      _root_.or_true, _root_.true_or, _root_.or_false, _root_.false_or, _root_.and_true, _root_.true_and, _root_.and_false, _root_.false_and, Nat.reduceMul, Nat.reduceSub, Nat.reduceLT, Nat.reduceLeDiff,
      ptO_keep2 p c c, ptO_sib2 p c c]
    try ac_rfl

theorem mem_got : ∀ e, iprop(recvPay X p c e ∗ Mem X p c (2 * (gotAt e - 1))) ⊢ Mem X p c (2 * gotAt e)
  | 1 => by
    have h : iprop((ptR c (rows (comRow p 1) (comLen p 1)) fullShare (land X p 1 c) ∗ anyO (F := F) (mate p 1 c) (rows (keep3 p c) (l3 p))
        ∗ anyO (F := F) (mate p 1 c) (rows (sib3 p c) (l3 p))) ∗ Mem X p c (2 * (gotAt 1 - 1))) = Mem X p c (2 * gotAt 1) := by
      simp only [Mem, MemRest, gotAt, on_true, on_false, none_sep, sep_none, decide_true, decide_false,
        _root_.or_true, _root_.true_or, _root_.or_false, _root_.false_or, _root_.and_true, _root_.true_and, _root_.and_false,
        _root_.false_and, Nat.reduceMul, Nat.reduceSub, Nat.reduceLT, Nat.reduceLeDiff]
      ac_rfl
    rw [← h]
    unfold recvPay
    iintro ⟨⟨H1, H2⟩, H3⟩
    ihave H2 := (anyO_split (mate p 1 c) (keep2_split p c)) $$ H2
    isplitl [H1 H2]
    · isplitl [H1] <;> iassumption
    · iexact H3
  | 0 | 2 | 3 | 4 | 5 | 6 | 7 => by
    refine Entails.of_eq ?_
    simp only [Mem, MemRest, recvPay, gotAt, on_true, on_false, none_sep, sep_none, decide_true, decide_false,
      _root_.or_true, _root_.true_or, _root_.or_false, _root_.false_or, _root_.and_true, _root_.true_and, _root_.and_false, _root_.false_and, Nat.reduceMul, Nat.reduceSub, Nat.reduceLT, Nat.reduceLeDiff,
      ptO_halves (I := rows (sib3 p c) (l3 p))]
    ac_rfl

/-! The five stores: two after the first halving, two after the second, one after the third. -/

def storeAt : Fin 5 → ℕ
  | 0 => 4 | 1 => 6 | 2 => 9 | 3 => 11 | 4 => 14

/-- The stored rows: the first one and how many. -/
def stRow : Fin 5 → ℕ
  | 0 => sib2 p c | 1 => keep2 p c | 2 => sib3 p c | 3 => keep3 p c | 4 => keep3 p c
def stLen : Fin 5 → ℕ
  | 0 => l2 p | 1 => l2 p | 2 => l3 p | 3 => l3 p | 4 => l3 p
/-- What they held, from the second halving on, and what they hold afterwards. -/
def stOld : Fin 5 → Option (Cont F)
  | 0 => none | 1 => none | 2 => some (sum1 X p c) | 3 => some (sum1 X p c) | 4 => some (sum2 X p c)
def stNew : Fin 5 → Cont F
  | 0 => sum1 X p c | 1 => sum1 X p c | 2 => sum2 X p c | 3 => sum2 X p c | 4 => sum3 X p c

def oldOf (j : Fin 5) : sProp 𝕄 :=
  (stOld X p c j).elim (anyO (F := F) c (rows (stRow p c j) (stLen p j))) fun f => ptO c (rows (stRow p c j) (stLen p j)) fullShare f

theorem ptO_done : ptO c (rows (keep3 p c) (l3 p)) fullShare (sum3 X p c)
    = iprop(ptO c (rows (keep3 p c) (l3 p)) fullShare.left (total X) ∗ ptO c (rows (keep3 p c) (l3 p)) fullShare.right (total X)) := by
  rw [← ptO_halves]; exact ptO_congr fun i hi => (total_eq X hi).symm

theorem mem_take : ∀ j, Mem X p c (2 * (storeAt j - 1)) = iprop(oldOf X p c j ∗ Mem X p c (2 * storeAt j - 1))
  | 0 | 1 | 2 | 3 | 4 => by
    simp only [Mem, MemRest, oldOf, stOld, stRow, stLen, storeAt, Option.elim, on_true, on_false, none_sep, sep_none, decide_true, decide_false,
      _root_.or_true, _root_.true_or, _root_.or_false, _root_.false_or, _root_.and_true, _root_.true_and, _root_.and_false, _root_.false_and, Nat.reduceMul, Nat.reduceSub, Nat.reduceLT, Nat.reduceLeDiff]
    ac_rfl

theorem mem_put : ∀ j, iprop(ptO c (rows (stRow p c j) (stLen p j)) fullShare (stNew X p c j) ∗ Mem X p c (2 * storeAt j - 1))
    = Mem X p c (2 * storeAt j)
  | 0 | 1 | 2 | 3 | 4 => by
    simp only [Mem, MemRest, stNew, stRow, stLen, storeAt, on_true, on_false, none_sep, sep_none, decide_true, decide_false,
      _root_.or_true, _root_.true_or, _root_.or_false, _root_.false_or, _root_.and_true, _root_.true_and, _root_.and_false, _root_.false_and, Nat.reduceMul, Nat.reduceSub, Nat.reduceLT, Nat.reduceLeDiff,
      ptO_keep2 p c c, ptO_done X p c]
    ac_rfl

/-- The kept half of the argument is always there to be read. -/
theorem mem_arg (t : ℕ) : ∃ R, Mem X p c t = iprop(ptX c (rows (keep1 p c) (l1 p)) fullShare (X c) ∗ R) := ⟨_, rfl⟩

/-- What has landed at a halving stays there to be read. -/
theorem mem_land (t : ℕ) : ∀ k : Fin 3, ![6, 16, 26] k ≤ t →
    ∃ R, Mem X p c t = iprop(ptR c (rows (comRow p k) (comLen p k)) fullShare (land X p k c) ∗ R)
  | 0, h => ⟨_, by unfold Mem; rw [show decide (6 ≤ t) = true from decide_eq_true h, on_true]; exact sep_swap _ _ _⟩
  | 1, h => ⟨_, by
    unfold Mem
    rw [show decide (16 ≤ t) = true from decide_eq_true h, on_true, sep_swap (on (decide (6 ≤ t)) _)]; exact sep_swap _ _ _⟩
  | 2, h => ⟨_, by
    unfold Mem
    rw [show decide (26 ≤ t) = true from decide_eq_true h, on_true, sep_swap (on (decide (16 ≤ t)) _),
      sep_swap (on (decide (6 ≤ t)) _)]; exact sep_swap _ _ _⟩

end Steps

end Cert.KernelProof

end
-- ==== Proof.State.lean ====
/-
# The state between two steps

All six parts advance in turn: `order` names the part of each of the 174 steps, `steps n p` counts how many of the first
`n` steps are the part `p`'s. `St` is everything a device owns and owes after `n` steps: its parts' rows (`Mem`), the
handles of its counters (`Cel`), what it still has to send, and the exit barrier's share. The lemmas take out of it what
a step uses and put back what a step leaves.
-/
module

public import proofs.«01_k».proof.Proof.Book

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The order of the steps -/

/-- Which part takes the `n`-th step. -/
def order : List (Fin 6) :=
  [0, 1, 2, 3, 4, 5] ++ ([5, 5, 5, 4, 5, 4].map fun b => ([0, 2, 4, 1, 3, 5] : List (Fin 6)).flatMap fun p => List.replicate b p).flatten

def steps (n : ℕ) (p : Fin 6) : ℕ := (order.take n).count p

/-- Step `n` is the part `p`'s, its `s`-th. -/
def Adv (n : ℕ) (p : Fin 6) (s : ℕ) : Prop := steps n p + 1 = s ∧ ∀ q, steps (n + 1) q = if q = p then s else steps n q

instance (n p s) : Decidable (Adv n p s) := by unfold Adv; infer_instance

theorem steps_first : ∀ p, steps 0 p = 0 := by decide +kernel
theorem steps_last : ∀ p, steps 174 p = 29 := by decide +kernel

theorem times : ∀ e, 0 < sentAt e ∧ sentAt e < goneAt e ∧ goneAt e < gotAt e := by decide
theorem sent_inj : ∀ e e', sentAt e = sentAt e' → e = e' := by decide
theorem gone_inj : ∀ e e', goneAt e = goneAt e' → e = e' := by decide
theorem got_inj : ∀ e e', gotAt e = gotAt e' → e = e' := by decide
theorem sent_ne_gone : ∀ e e', sentAt e ≠ goneAt e' := by decide
theorem sent_ne_got : ∀ e e', sentAt e ≠ gotAt e' := by decide
theorem gone_ne_got : ∀ e e', goneAt e ≠ gotAt e' := by decide
theorem sent_ne_store : ∀ e j, sentAt e ≠ storeAt j := by decide
theorem gone_ne_store : ∀ e j, goneAt e ≠ storeAt j := by decide
theorem got_ne_store : ∀ e j, gotAt e ≠ storeAt j := by decide
theorem store_pos : ∀ j, 0 < storeAt j := by decide

/-! ## The counters' handles -/

section Handles
variable (p : Fin 6) (c : Dev nD)

abbrev at0 (g : GSem nD τ sig) : sProp 𝕄 := atPos ER g 0 ∅ 0
abbrev at1 (g : GSem nD τ sig) : sProp 𝕄 := atPos ER g 1 ∅ 0
abbrev duty (g : GSem nD τ sig) (d : Fin 3) : sProp 𝕄 := dutyTok ER g 0 d
abbrev credOf (k : Kind) : sProp 𝕄 := cred (tallyAt (cell c k) () (amt k))

/-- The handles of one transfer: the right to raise its two counters, the credit and the place at the send counter
    before and after the wait for it, and those at the receive counter. -/
def HandAt (e : Fin 8) (b1 b2 b3 b4 b5 b6 : Bool) : sProp 𝕄 := iprop(
  on b1 iprop(duty (F := F) (sendCell c p e) 0 ∗ duty (F := F) (recvCell (tgt p e c) p e) 0)
  ∗ on b2 (credOf (F := F) c (.inr (false, p, e)))
  ∗ on b3 (at0 (F := F) (sendCell c p e))
  ∗ on b4 (at1 (F := F) (sendCell c p e))
  ∗ on b5 iprop(credOf (F := F) c (.inr (true, p, e)) ∗ at0 (F := F) (recvCell c p e))
  ∗ on b6 (at1 (F := F) (recvCell c p e)))

/-- The same after the part's `s` steps. -/
def Hand (e : Fin 8) (s : ℕ) : sProp 𝕄 :=
  HandAt p c e (s < sentAt e) (sentAt e ≤ s ∧ s < goneAt e) (s < goneAt e) (goneAt e ≤ s) (s < gotAt e) (gotAt e ≤ s)

theorem hand_at (e : Fin 8) (s : ℕ) (b1 b2 b3 b4 b5 b6 : Bool)
    (h : decide (s < sentAt e) = b1 ∧ decide (sentAt e ≤ s ∧ s < goneAt e) = b2 ∧ decide (s < goneAt e) = b3
      ∧ decide (goneAt e ≤ s) = b4 ∧ decide (s < gotAt e) = b5 ∧ decide (gotAt e ≤ s) = b6) :
    Hand (F := F) p c e s = HandAt p c e b1 b2 b3 b4 b5 b6 := by
  obtain ⟨rfl, rfl, rfl, rfl, rfl, rfl⟩ := h; rfl

local instance : Std.Commutative (α := sProp 𝕄) BIBase.sep := ⟨fun P Q => BI.equiv_iff.mp ⟨BI.sep_comm, BI.sep_comm⟩⟩
local instance : Std.Associative (α := sProp 𝕄) BIBase.sep := ⟨fun P Q R => BI.equiv_iff.mp ⟨BI.sep_assoc, BI.sep_assoc'⟩⟩

theorem hand_same {e : Fin 8} {s : ℕ} (h1 : sentAt e ≠ s) (h2 : goneAt e ≠ s) (h3 : gotAt e ≠ s) (h : 0 < s) :
    Hand (F := F) p c e (s - 1) = Hand p c e s := by
  refine hand_at p c e (s - 1) _ _ _ _ _ _ ?_
  simp only [decide_eq_decide]; omega

theorem hand_send (e : Fin 8) : ∃ R, Hand (F := F) p c e (sentAt e - 1)
      = iprop(duty (F := F) (sendCell c p e) 0 ∗ duty (F := F) (recvCell (tgt p e c) p e) 0 ∗ R)
    ∧ Hand p c e (sentAt e) = iprop(credOf (F := F) c (.inr (false, p, e)) ∗ R) := by
  obtain ⟨h1, h2, h3⟩ := times e
  refine ⟨iprop(at0 (F := F) (sendCell c p e) ∗ credOf (F := F) c (.inr (true, p, e)) ∗ at0 (F := F) (recvCell c p e)), ?_, ?_⟩
  · rw [hand_at p c e _ true false true false true false (by simp only [decide_eq_true_eq, decide_eq_false_iff_not]; omega)]
    simp only [HandAt, on_true, on_false, none_sep, sep_none]; ac_rfl
  · rw [hand_at p c e _ false true true false true false (by simp only [decide_eq_true_eq, decide_eq_false_iff_not]; omega)]
    simp only [HandAt, on_true, on_false, none_sep, sep_none]

theorem hand_gone (e : Fin 8) : ∃ R, Hand (F := F) p c e (goneAt e - 1)
      = iprop(credOf (F := F) c (.inr (false, p, e)) ∗ at0 (F := F) (sendCell c p e) ∗ R)
    ∧ Hand p c e (goneAt e) = iprop(at1 (F := F) (sendCell c p e) ∗ R) := by
  obtain ⟨h1, h2, h3⟩ := times e
  refine ⟨iprop(credOf (F := F) c (.inr (true, p, e)) ∗ at0 (F := F) (recvCell c p e)), ?_, ?_⟩
  · rw [hand_at p c e _ false true true false true false (by simp only [decide_eq_true_eq, decide_eq_false_iff_not]; omega)]
    simp only [HandAt, on_true, on_false, none_sep, sep_none]
  · rw [hand_at p c e _ false false false true true false (by simp only [decide_eq_true_eq, decide_eq_false_iff_not]; omega)]
    simp only [HandAt, on_true, on_false, none_sep, sep_none]

theorem hand_got (e : Fin 8) : ∃ R, Hand (F := F) p c e (gotAt e - 1)
      = iprop(credOf (F := F) c (.inr (true, p, e)) ∗ at0 (F := F) (recvCell c p e) ∗ R)
    ∧ Hand p c e (gotAt e) = iprop(at1 (F := F) (recvCell c p e) ∗ R) := by
  obtain ⟨h1, h2, h3⟩ := times e
  refine ⟨at1 (F := F) (sendCell c p e), ?_, ?_⟩
  · rw [hand_at p c e _ false false false true true false (by simp only [decide_eq_true_eq, decide_eq_false_iff_not]; omega)]
    simp only [HandAt, on_true, on_false, none_sep, sep_none]; ac_rfl
  · rw [hand_at p c e _ false false false true false true (by simp only [decide_eq_true_eq, decide_eq_false_iff_not]; omega)]
    simp only [HandAt, on_true, on_false, none_sep, sep_none]; ac_rfl

/-- At the end every counter has been waited for. -/
theorem hand_last (e : Fin 8) : Hand (F := F) p c e 29 = iprop(at1 (F := F) (sendCell c p e) ∗ at1 (F := F) (recvCell c p e)) := by
  have h : sentAt e ≤ 29 ∧ goneAt e ≤ 29 ∧ gotAt e ≤ 29 := by revert e; decide
  rw [hand_at p c e _ false false false true false true (by simp only [decide_eq_true_eq, decide_eq_false_iff_not]; omega)]
  simp only [HandAt, on_true, on_false, none_sep, sep_none]

/-- And at the start nothing has happened. -/
theorem hand_first (e : Fin 8) : Hand (F := F) p c e 0
    = iprop((duty (F := F) (sendCell c p e) 0 ∗ duty (F := F) (recvCell (tgt p e c) p e) 0)
      ∗ at0 (F := F) (sendCell c p e) ∗ credOf (F := F) c (.inr (true, p, e)) ∗ at0 (F := F) (recvCell c p e)) := by
  obtain ⟨h1, h2, h3⟩ := times e
  rw [hand_at p c e _ true false true false true false (by simp only [decide_eq_true_eq, decide_eq_false_iff_not]; omega)]
  simp only [HandAt, on_true, on_false, none_sep, sep_none]

def Cel (s : ℕ) : sProp 𝕄 := bigSep Finset.univ fun e => Hand (F := F) p c e s

/-- All but one transfer stand still while that one moves. -/
theorem cel_at (e : Fin 8) (s : ℕ) : Cel (F := F) p c s = iprop(Hand p c e s ∗ bigSep (Finset.univ.erase e) fun e' => Hand p c e' s) :=
  bigSep_erase (Finset.mem_univ e)
theorem cel_rest {e : Fin 8} {s : ℕ} (h : 0 < s) (hne : ∀ e', e' ≠ e → sentAt e' ≠ s ∧ goneAt e' ≠ s ∧ gotAt e' ≠ s) :
    (bigSep (Finset.univ.erase e) fun e' => Hand (F := F) p c e' (s - 1)) = bigSep (Finset.univ.erase e) fun e' => Hand p c e' s :=
  bigSep_congr fun e' he' => by
    obtain ⟨h1, h2, h3⟩ := hne e' (Finset.ne_of_mem_erase he')
    exact hand_same p c h1 h2 h3 h

end Handles

/-! ## One part -/

section OnePart
variable (X : Dev nD → Cont F) (p : Fin 6) (c : Dev nD)

def Part (s : ℕ) : sProp 𝕄 := iprop(Cel (F := F) p c s ∗ Mem X p c (2 * s))

local instance : Std.Commutative (α := sProp 𝕄) BIBase.sep := ⟨fun P Q => BI.equiv_iff.mp ⟨BI.sep_comm, BI.sep_comm⟩⟩
local instance : Std.Associative (α := sProp 𝕄) BIBase.sep := ⟨fun P Q R => BI.equiv_iff.mp ⟨BI.sep_assoc, BI.sep_assoc'⟩⟩

theorem part_send (e : Fin 8) : ∃ R, Part X p c (sentAt e - 1)
      = iprop(duty (F := F) (sendCell c p e) 0 ∗ duty (F := F) (recvCell (tgt p e c) p e) 0 ∗ srcOf X p c e ∗ dstAny (F := F) p c e ∗ R)
    ∧ Part X p c (sentAt e) = iprop(credOf (F := F) c (.inr (false, p, e)) ∗ R) := by
  obtain ⟨R, h1, h2⟩ := hand_send (F := F) p c e
  refine ⟨iprop(R ∗ (bigSep (Finset.univ.erase e) fun e' => Hand p c e' (sentAt e)) ∗ Mem X p c (2 * sentAt e)), ?_, ?_⟩
  · unfold Part
    rw [mem_send, cel_at p c e, cel_rest p c (times e).1 fun e' he' => ⟨fun h => he' (sent_inj _ _ h), (sent_ne_gone _ _).symm, (sent_ne_got _ _).symm⟩, h1]
    ac_rfl
  · unfold Part
    rw [cel_at p c e, h2]; ac_rfl

theorem part_gone (e : Fin 8) : ∃ R, Part X p c (goneAt e - 1)
      = iprop(credOf (F := F) c (.inr (false, p, e)) ∗ at0 (F := F) (sendCell c p e) ∗ R)
    ∧ iprop(at1 (F := F) (sendCell c p e) ∗ sendPay X p c e ∗ R) = Part X p c (goneAt e) := by
  obtain ⟨R, h1, h2⟩ := hand_gone (F := F) p c e
  refine ⟨iprop(R ∗ (bigSep (Finset.univ.erase e) fun e' => Hand p c e' (goneAt e)) ∗ Mem X p c (2 * (goneAt e - 1))), ?_, ?_⟩
  · unfold Part
    rw [cel_at p c e, cel_rest p c (Nat.zero_lt_of_lt (times e).2.1)
      fun e' he' => ⟨sent_ne_gone _ _, fun h => he' (gone_inj _ _ h), (gone_ne_got _ _).symm⟩, h1]
    ac_rfl
  · unfold Part
    rw [cel_at p c e, h2, ← mem_gone]; ac_rfl

theorem part_got (e : Fin 8) : ∃ R, Part X p c (gotAt e - 1)
      = iprop(credOf (F := F) c (.inr (true, p, e)) ∗ at0 (F := F) (recvCell c p e) ∗ R)
    ∧ (iprop(at1 (F := F) (recvCell c p e) ∗ recvPay X p c e ∗ R) ⊢ Part X p c (gotAt e)) := by
  obtain ⟨R, h1, h2⟩ := hand_got (F := F) p c e
  refine ⟨iprop((R ∗ (bigSep (Finset.univ.erase e) fun e' => Hand p c e' (gotAt e))) ∗ Mem X p c (2 * (gotAt e - 1))), ?_, ?_⟩
  · unfold Part
    rw [cel_at p c e, cel_rest p c (Nat.zero_lt_of_lt (times e).2.2)
      fun e' he' => ⟨sent_ne_got _ _, gone_ne_got _ _, fun h => he' (got_inj _ _ h)⟩, h1]
    ac_rfl
  · unfold Part
    rw [cel_at p c e, h2]
    iintro ⟨H1, H2, ⟨H3, H4⟩, H5⟩
    isplitl [H1 H3 H4]
    · iframe H1 H3 H4
    · iapply (mem_got X p c e)
      iframe H2 H5

theorem part_store (j : Fin 5) : ∃ R, Part X p c (storeAt j - 1) = iprop(oldOf X p c j ∗ R)
    ∧ iprop(ptO c (rows (stRow p c j) (stLen p j)) fullShare (stNew X p c j) ∗ R) = Part X p c (storeAt j) := by
  refine ⟨iprop(Cel (F := F) p c (storeAt j) ∗ Mem X p c (2 * storeAt j - 1)), ?_, ?_⟩
  · unfold Part
    rw [mem_take]
    have h : Cel (F := F) p c (storeAt j - 1) = Cel p c (storeAt j) :=
      bigSep_congr fun e _ => hand_same p c (sent_ne_store _ _) (gone_ne_store _ _) (got_ne_store _ _) (store_pos j)
    rw [h]; exact sep_swap _ _ _
  · unfold Part
    rw [← mem_put]; exact sep_swap _ _ _

end OnePart

/-! ## All parts -/

section All
variable (X : Dev nD → Cont F) (c : Dev nD)

def Parts (n : ℕ) : sProp 𝕄 := bigSep Finset.univ fun p => Part X p c (steps n p)

/-- The part whose step it is moves, the others stand still. -/
theorem parts_adv {n : ℕ} {p : Fin 6} {s : ℕ} (h : Adv n p s) :
    ∃ R, Parts X c n = iprop(Part X p c (s - 1) ∗ R) ∧ Parts X c (n + 1) = iprop(Part X p c s ∗ R) := by
  refine ⟨bigSep (Finset.univ.erase p) fun q => Part X q c (steps n q), ?_, ?_⟩
  · unfold Parts; rw [bigSep_erase (Finset.mem_univ p), ← h.1, Nat.add_sub_cancel]; rfl
  · unfold Parts; rw [bigSep_erase (Finset.mem_univ p), h.2 p, if_pos rfl]
    exact congrArg (BIBase.sep _) (bigSep_congr fun q hq => by rw [h.2 q, if_neg (Finset.ne_of_mem_erase hq)])

/-- What is owed for a transfer not yet started, and for the exit barrier. -/
def owedAt (pe : Fin 6 × Fin 8) (s : ℕ) : CellTallies nD τ sig Unit :=
  if s < sentAt pe.2 then tallyAt (recvCell (tgt pe.1 pe.2 c) pe.1 pe.2) () (credit (len pe.1 pe.2)) else 0
def exits : CellTallies nD τ sig Unit :=
  tallyAt (endCell (peer 2 c)) () 1 + tallyAt (endCell (peer 1 c)) () 1 + tallyAt (endCell (peer 0 c)) () 1
def O (n : ℕ) : CellTallies nD τ sig Unit := exits c + ∑ pe : Fin 6 × Fin 8, owedAt c pe (steps n pe.1)

theorem owed_same {n : ℕ} {p : Fin 6} {s : ℕ} (h : Adv n p s) (pe : Fin 6 × Fin 8) (hpe : pe.1 = p → sentAt pe.2 ≠ s) :
    owedAt c pe (steps (n + 1) pe.1) = owedAt c pe (steps n pe.1) := by
  by_cases hp : pe.1 = p
  · have := hpe hp
    rw [h.2, if_pos hp, hp]; unfold owedAt
    rw [← h.1] at this ⊢
    by_cases h' : steps n p < sentAt pe.2
    · rw [if_pos h', if_pos (by omega)]
    · rw [if_neg h', if_neg (by omega)]
  · rw [h.2, if_neg hp]

theorem O_same {n : ℕ} {p : Fin 6} {s : ℕ} (h : Adv n p s) (hs : ∀ e, sentAt e ≠ s) : O c (n + 1) = O c n :=
  congrArg (exits c + ·) (Finset.sum_congr rfl fun pe _ => owed_same c h pe fun _ => hs _)

theorem O_send {n : ℕ} {p : Fin 6} {e : Fin 8} (h : Adv n p (sentAt e)) :
    O c n = O c (n + 1) + tallyAt (recvCell (tgt p e c) p e) () (credit (len p e)) := by
  unfold O
  rw [add_assoc]
  congr 1
  rw [← Finset.sum_erase_add _ _ (Finset.mem_univ (p, e)), ← Finset.sum_erase_add (a := (p, e)) _ (fun pe => owedAt c pe (steps (n + 1) pe.1)) (Finset.mem_univ (p, e)),
    Finset.sum_congr rfl fun pe hpe => (owed_same c h pe fun hp hs =>
      Finset.ne_of_mem_erase hpe (Prod.ext hp (sent_inj _ _ hs))).symm]
  have h1 : owedAt c (p, e) (steps n p) = tallyAt (recvCell (tgt p e c) p e) () (credit (len p e)) :=
    if_pos (by have := h.1; show steps n p < sentAt e; omega)
  have h2 : owedAt c (p, e) (steps (n + 1) p) = 0 :=
    if_neg (by rw [h.2, if_pos rfl]; exact Nat.lt_irrefl _)
  rw [h1, h2, add_zero]

theorem O_pos {n : ℕ} {g : GSem nD τ sig} {u : Unit} (h : 0 < O c n g u) :
    (∃ pe : Fin 6 × Fin 8, steps n pe.1 < sentAt pe.2 ∧ g = recvCell (tgt pe.1 pe.2 c) pe.1 pe.2) ∨ ∃ d, g = endCell (peer d c) := by
  by_contra hn
  rw [not_or] at hn
  obtain ⟨h1, h2⟩ := hn
  refine absurd h (Nat.not_lt.mpr (Nat.le_of_eq ?_))
  have ht : ∀ d, (tallyAt (endCell (peer d c)) () 1 : CellTallies nD τ sig Unit) g u = 0 := fun d => by
    rw [tallyAt_apply, if_neg fun h' => h2 ⟨d, h'.1⟩]
  have hz : ∀ pe : Fin 6 × Fin 8, owedAt c pe (steps n pe.1) g u = 0 := fun pe => by
    unfold owedAt
    split
    · rename_i hlt
      rw [tallyAt_apply, if_neg fun h' => h1 ⟨pe, hlt, h'.1⟩]
    · rfl
  unfold O exits
  rw [Pi.add_apply, Finsupp.add_apply, Pi.add_apply, Finsupp.add_apply, Pi.add_apply, Finsupp.add_apply, ht, ht, ht,
    Finset.sum_apply, Finsupp.finset_sum_apply, Finset.sum_eq_zero fun pe _ => hz pe]; rfl

/-- A device may wait at a counter that lies below everything it has still to send. -/
theorem mayWait {n : ℕ} (k : Kind) (hk : lvOf k < 8) (h : ∀ p e, steps n p < sentAt e → lvOf k < recvLv e) :
    (levAts L lv : sProp 𝕄) ⊢ MayWait (c : Thread nD τ) (csem k) () (O c n) :=
  MayOwe.of_cut (L := L) (lev := lv) (lvOf k)
    (fun q hq => by rw [Finset.mem_singleton.mp hq, L_tc]; exact Finset.mem_singleton_self _)
    (fun g u hg => by
      rcases O_pos c hg with ⟨pe, -, rfl⟩ | ⟨d, rfl⟩ <;> exact Finset.mem_singleton_self _)
    (fun q hq => by rw [Finset.mem_singleton.mp hq]; exact Nat.le_of_eq (lv_cell c k))
    (fun g u hg => by
      rcases O_pos c hg with ⟨pe, hlt, rfl⟩ | ⟨d, rfl⟩
      · exact (h pe.1 pe.2 hlt).trans_eq (lv_cell (tgt pe.1 pe.2 c) (.inr (true, pe.1, pe.2))).symm
      · exact hk.trans_eq (lv_cell (peer d c) (.inl true)).symm)

/-- The invariants of all counters, and that they are in use. -/
def Env (K : Dev nD × Kind → ℕ) : sProp 𝕄 := iprop(
  (bigSep Finset.univ fun ck : Dev nD × Kind => cellInv ER (hs X) (K ck) (cell ck.1 ck.2))
  ∗ (bigSep Finset.univ fun ck : Dev nD × Kind => reached ER (cell ck.1 ck.2) 0) ∗ levAts L lv)

instance Env_persistent (K) : BI.Persistent (Env X K) := by unfold Env; infer_instance

theorem Env_inv (K : Dev nD × Kind → ℕ) (d : Dev nD) (k : Kind) : Env X K ⊢ cellInv ER (hs X) (K (d, k)) (cell d k) := by
  unfold Env; iintro ⟨H, -, -⟩
  iapply (show (bigSep Finset.univ fun ck : Dev nD × Kind => cellInv ER (hs X) (K ck) (cell ck.1 ck.2) : sProp 𝕄)
    ⊢ cellInv ER (hs X) (K (d, k)) (cell d k) from bigSep_elim (Finset.mem_univ (d, k)))
  iexact H
theorem Env_reached (K : Dev nD × Kind → ℕ) (d : Dev nD) (k : Kind) : Env X K ⊢ reached ER (cell d k) 0 := by
  unfold Env; iintro ⟨-, H, -⟩
  iapply (show (bigSep Finset.univ fun ck : Dev nD × Kind => reached ER (cell ck.1 ck.2) 0 : sProp 𝕄)
    ⊢ reached ER (cell d k) 0 from bigSep_elim (Finset.mem_univ (d, k)))
  iexact H
theorem Env_lev (K : Dev nD × Kind → ℕ) : Env X K ⊢ levAts L lv := by
  unfold Env; iintro ⟨-, -, H⟩; iexact H

/-- What the device keeps for its exit. -/
def Exit : sProp 𝕄 := iprop(at1 (F := F) (barCell c) ∗ at0 (F := F) (endCell c) ∗ cred (tallyAt (endCell c) () 3)
  ∗ duty (F := F) (endCell (peer 0 c)) 0 ∗ duty (F := F) (endCell (peer 1 c)) 1 ∗ duty (F := F) (endCell (peer 2 c)) 2)

/-- Everything the device has after `n` steps. -/
def St (K : Dev nD × Kind → ℕ) (n : ℕ) : sProp 𝕄 :=
  iprop(Env X K ∗ (∃ W, owes (c : Thread nD τ) (O c n) W) ∗ Parts X c n ∗ Exit (F := F) c)

end All

end Cert.KernelProof

end
-- ==== Proof.Steps.lean ====
/-
# The steps

One lemma for each kind of operation of the kernel: starting a transfer, waiting for a send or a receive counter, loading
and storing a window of rows. Each says that an operation which is the `n`-th step takes the device from its state after `n` steps to its
state after `n + 1`. The windows and counters of the operation are arbitrary; equations say which rows and which counter
they are.
-/
module

public import proofs.«01_k».proof.Proof.State

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `g` and ends with `Q`. -/
abbrev run {α : Type} (c : Dev nD) (g : Prog (TpuEff nD τ sig (Elt F) Λ₀ .tc) α) (Q : α → sProp 𝕄) : sProp 𝕄 :=
  wp frame (wpE (defs₀ (F := F)) 𝒱₀ (c : Thread nD τ) none) Set.univ g Q

/-- Two pieces of a program one after the other. -/
theorem run_seq {α β : Type} {c : Dev nD} {g : Prog (TpuEff nD τ sig (Elt F) Λ₀ .tc) α} {k : α → Prog (TpuEff nD τ sig (Elt F) Λ₀ .tc) β}
    {A : sProp 𝕄} {B : α → sProp 𝕄} {Q : β → sProp 𝕄} (h : A ⊢ run c g B) (hk : ∀ a, B a ⊢ run c (k a) Q) : A ⊢ run c (g >>= k) Q := by
  unfold run at *
  rw [wp_bind]
  exact h.trans (wp_mono _ _ _ hk)

/-- A piece that does nothing more. -/
theorem run_ret {α : Type} {c : Dev nD} {a : α} {A : sProp 𝕄} {Q : α → sProp 𝕄} (h : A ⊢ Q a) : A ⊢ run c (.ret a) Q := by
  unfold run; rw [wp_ret]; iintro H; imodintro; iapply h; iexact H

/-- A piece that does nothing more, and what it returns. -/
theorem run_ret_eq {α : Type} {c : Dev nD} {a : α} {φ : α → Prop} {A : sProp 𝕄} (h : φ a) : A ⊢ run c (.ret a) fun r => iprop(⌜φ r⌝ ∗ A) := by
  refine run_ret ?_
  iintro H; isplitr
  · ipureintro; exact h
  · iexact H

/-! ## Windows -/

/-- The contents of a window of rows. -/
def win (off size : Fin 2 → ℕ) (inb : ∀ d, off d + size d ≤ S4096x1024.size d) (f : Cont F) :
    (Rect.unit (s := S4096x1024) off size inb).shape.Idx → Elt F .f32 :=
  fun j => f ((Rect.unit (s := S4096x1024) off size inb).emb j)

section Windows
variable {off size : Fin 2 → ℕ} {inb : ∀ d, off d + size d ≤ S4096x1024.size d}
  {off' : Fin 2 → ℕ} {inb' : ∀ d, off' d + size d ≤ S4096x1024.size d} {a b m : ℕ}

theorem xM_set (ho : off = ![a, 0]) (hs : size = ![m, 1024]) :
    (xM.slice (Rect.unit (s := S4096x1024) off size inb) (fun _ => rfl)).view.set = rows a m :=
  (View.set_slice_whole _ _).trans (unit_set off size inb ho hs)
theorem oM_set (ho : off = ![a, 0]) (hs : size = ![m, 1024]) :
    (oM.slice (Rect.unit (s := S4096x1024) off size inb) (fun _ => rfl)).view.set = rows a m :=
  (View.set_slice_whole _ _).trans (unit_set off size inb ho hs)
theorem rM_set (ho : off = ![a, 0]) (hs : size = ![m, 1024]) :
    (rM.slice (Rect.unit (s := S4096x1024) off size inb) (fun _ => rfl)).view.set = rows a m :=
  (View.set_slice_whole _ _).trans (unit_set off size inb ho hs)

theorem emb_mem (ho : off = ![a, 0]) (hs : size = ![m, 1024]) (j : (Rect.unit (s := S4096x1024) off size inb).shape.Idx) :
    (Rect.unit (s := S4096x1024) off size inb).emb j ∈ rows a m :=
  oM_set (inb := inb) ho hs ▸ View.emb_mem_set (oM.slice (Rect.unit (s := S4096x1024) off size inb) (fun _ => rfl)).view j

/-- An element of a window is at some place in it. -/
theorem emb_exists (ho : off = ![a, 0]) (hs : size = ![m, 1024]) {i : S4096x1024.Idx} (hi : i ∈ rows a m) :
    ∃ j, (Rect.unit (s := S4096x1024) off size inb).emb j = i := by
  rw [← oM_set (inb := inb) ho hs] at hi
  obtain ⟨j, -, h⟩ := Finset.mem_map.mp hi
  exact ⟨j, h⟩

/-- What a window holds after a transfer from another. -/
theorem landed_oo (ho : off = ![a, 0]) (ho' : off' = ![b, 0]) (hs : size = ![m, 1024]) (fs fd : Cont F) {i : S4096x1024.Idx}
    (hi : i ∈ rows b m) :
    ((oM.slice (Rect.unit (s := S4096x1024) off' size inb') (fun _ => rfl)).view.write (Elt F) fd
      ((oM.slice (Rect.unit (s := S4096x1024) off size inb) (fun _ => rfl)).view.read (Elt F) fs) Finset.univ : Cont F) i
    = fs (shift b a i) := by
  obtain ⟨j, rfl⟩ := emb_exists (inb := inb') ho' hs hi
  rw [← emb_unit off' size inb' off inb ho' ho j]
  exact (View.write_emb_of_mem (v := (oM.slice (Rect.unit (s := S4096x1024) off' size inb') (fun _ => rfl)).view) (Val := Elt F) fd _ (Finset.mem_univ j))

theorem landed_or (ho : off = ![a, 0]) (ho' : off' = ![b, 0]) (hs : size = ![m, 1024]) (fs fd : Cont F) {i : S4096x1024.Idx}
    (hi : i ∈ rows b m) :
    ((rM.slice (Rect.unit (s := S4096x1024) off' size inb') (fun _ => rfl)).view.write (Elt F) fd
      ((oM.slice (Rect.unit (s := S4096x1024) off size inb) (fun _ => rfl)).view.read (Elt F) fs) Finset.univ : Cont F) i
    = fs (shift b a i) := landed_oo (inb := inb) (inb' := inb') ho ho' hs fs fd hi

theorem landed_xr (ho : off = ![a, 0]) (ho' : off' = ![b, 0]) (hs : size = ![m, 1024]) (fs fd : Cont F) {i : S4096x1024.Idx}
    (hi : i ∈ rows b m) :
    ((rM.slice (Rect.unit (s := S4096x1024) off' size inb') (fun _ => rfl)).view.write (Elt F) fd
      ((xM.slice (Rect.unit (s := S4096x1024) off size inb) (fun _ => rfl)).view.read (Elt F) fs) Finset.univ : Cont F) i
    = fs (shift b a i) := landed_oo (inb := inb) (inb' := inb') ho ho' hs fs fd hi

/-- What the result holds after a store of a window's contents. -/
theorem stored (ho : off = ![a, 0]) (hs : size = ![m, 1024]) (f fd : Cont F) {i : S4096x1024.Idx} (hi : i ∈ rows a m) :
    ((oM.access (Rect.unit (s := S4096x1024) off size inb)).write (Elt F) fd (win off size inb f) Finset.univ : Cont F) i = f i := by
  obtain ⟨j, rfl⟩ := emb_exists (inb := inb) ho hs hi
  exact (View.write_emb_of_mem (v := oM.access (Rect.unit (s := S4096x1024) off size inb)) (Val := Elt F) fd _ (Finset.mem_univ j))

end Windows

/-- The order in which rows are listed does not matter. -/
local instance : Std.Commutative (α := sProp 𝕄) BIBase.sep := ⟨fun P Q => BI.equiv_iff.mp ⟨BI.sep_comm, BI.sep_comm⟩⟩
local instance : Std.Associative (α := sProp 𝕄) BIBase.sep := ⟨fun P Q R => BI.equiv_iff.mp ⟨BI.sep_assoc, BI.sep_assoc'⟩⟩

section Steps
variable {X : Dev nD → Cont F} {c : Dev nD} {K : Dev nD × Kind → ℕ} {n : ℕ} {p : Fin 6}
  {α : Type} {Q : α → sProp (MT nD τ sig Unit (Elt F) ℕ UU ℕ)}

theorem recvLv_pos : ∀ e, 0 < recvLv e := by decide
theorem recvLv_lt : ∀ e, recvLv e < 8 := by decide

theorem mem_duties (c : Dev nD) (b : Bool) (p : Fin 6) (e : Fin 8) : (0 : Fin 3) ∈ (hs X).duties (cell c (.inr (b, p, e))) 0 := by
  rw [duties_cell]; exact Finset.mem_singleton_self _

/-! ## Waits -/

theorem step_gone (e : Fin 8) (h : Adv n p (goneAt e) := by decide +kernel) {sem : DmaSem sig} (hsem : sem = sendIx p e := by rfl) {s s' : Shape}
    {src : Memref sig .tc .vmem s' .f32} {dst : Memref sig .tc .vmem s .f32} {hsrc : src.view.WordExact} {hdst : dst.view.WordExact}
    (hN : dst.view.dmaCredit = credit (len p e) := by rfl) {k : PUnit → Prog (TpuEff nD τ sig (Elt F) Λ₀ .tc) α}
    (hk : St X c K (n + 1) ⊢ run c (k ⟨⟩) Q) :
    St X c K n ⊢ run c (.op (.waitDma2 sem src dst hsrc hdst) k) Q := by
  subst hsem
  obtain ⟨R, hR, hR'⟩ := parts_adv X c h
  obtain ⟨R2, h1, h2⟩ := part_gone X p c e
  unfold St at *
  rw [hR, h1]
  rw [hR', ← h2, O_same c h fun e' => sent_ne_gone _ _] at hk
  iintro ⟨#HE, ⟨%W, HO⟩, ⟨⟨Hc, Ha, HR2⟩, HR⟩, HX⟩
  iapply (Rounds.wp_wait_rest_token 𝒱₀ ER (hs X) (c : Thread nD τ) none (κ := K (c, .inr (false, p, e)))
      (wpE_waitDma2_eq 𝒱₀ (c : Thread nD τ) none Set.univ) (Set.mem_univ _) () (O := O c n) (W := W) (R := 0) (m := 0) (T := ∅)
      (by rw [Nat.zero_add, hN]; exact (expect_dma X c false p e).symm)) $$ [Hc HO Ha]
  · isplitr; · iapply (Env_inv X K c (.inr (false, p, e))); iexact HE
    isplitl [Hc]; · rw [hN]; iexact Hc
    isplitl [HO]; · iexact HO
    isplitr
    · iapply (mayWait (F := F) c (n := n) (.inr (false, p, e)) (show (0 : ℕ) < 8 by decide) (fun p' e' _ => recvLv_pos e'))
      iapply (Env_lev X K); iexact HE
    iexact Ha
  iintro ⟨HO, Ha, -, Hpay⟩
  ihave Hpay := (show (bigSep ((hs X).duties ((c : Thread nD τ), .dma (sendIx p e)) 0 \ ∅) fun d => (hs X).payload ((c : Thread nD τ), .dma (sendIx p e)) 0 d : sProp 𝕄)
      ⊢ sendPay X p c e from Entails.of_eq (rest_dma X c false p e)) $$ Hpay
  iapply hk
  isplitr; · iexact HE
  isplitl [HO]; · iexists _; iexact HO
  isplitr [HX]
  · isplitr [HR]
    · isplitl [Ha]; · iexact Ha
      isplitl [Hpay]; · iexact Hpay
      iexact HR2
    · iexact HR
  · iexact HX

theorem step_got (e : Fin 8) (h : Adv n p (gotAt e) := by decide +kernel) (hlt : ∀ p' e', steps n p' < sentAt e' → recvLv e < recvLv e' := by decide +kernel) {sem : DmaSem sig}
    (hsem : sem = recvIx p e := by rfl) {s s' : Shape}
    {src : Memref sig .tc .vmem s' .f32} {dst : Memref sig .tc .vmem s .f32} {hsrc : src.view.WordExact} {hdst : dst.view.WordExact}
    (hN : dst.view.dmaCredit = credit (len p e) := by rfl) {k : PUnit → Prog (TpuEff nD τ sig (Elt F) Λ₀ .tc) α}
    (hk : St X c K (n + 1) ⊢ run c (k ⟨⟩) Q) :
    St X c K n ⊢ run c (.op (.waitDma2 sem src dst hsrc hdst) k) Q := by
  subst hsem
  obtain ⟨R, hR, hR'⟩ := parts_adv X c h
  obtain ⟨R2, h1, h2⟩ := part_got X p c e
  unfold St at *
  rw [hR, h1]
  rw [hR', O_same c h fun e' => sent_ne_got _ _] at hk
  iintro ⟨#HE, ⟨%W, HO⟩, ⟨⟨Hc, Ha, HR2⟩, HR⟩, HX⟩
  iapply (Rounds.wp_wait_rest_token 𝒱₀ ER (hs X) (c : Thread nD τ) none (κ := K (c, .inr (true, p, e)))
      (wpE_waitDma2_eq 𝒱₀ (c : Thread nD τ) none Set.univ) (Set.mem_univ _) () (O := O c n) (W := W) (R := 0) (m := 0) (T := ∅)
      (by rw [Nat.zero_add, hN]; exact (expect_dma X c true p e).symm)) $$ [Hc HO Ha]
  · isplitr; · iapply (Env_inv X K c (.inr (true, p, e))); iexact HE
    isplitl [Hc]; · rw [hN]; iexact Hc
    isplitl [HO]; · iexact HO
    isplitr
    · iapply (mayWait (F := F) c (n := n) (.inr (true, p, e)) (recvLv_lt e) hlt)
      iapply (Env_lev X K); iexact HE
    iexact Ha
  iintro ⟨HO, Ha, -, Hpay⟩
  ihave Hpay := (show (bigSep ((hs X).duties ((c : Thread nD τ), .dma (recvIx p e)) 0 \ ∅) fun d => (hs X).payload ((c : Thread nD τ), .dma (recvIx p e)) 0 d : sProp 𝕄)
      ⊢ recvPay X p c e from Entails.of_eq (rest_dma X c true p e)) $$ Hpay
  iapply hk
  isplitr; · iexact HE
  isplitl [HO]; · iexists _; iexact HO
  isplitr [HX]
  · isplitr [HR]
    · iapply h2
      isplitl [Ha]; · iexact Ha
      isplitl [Hpay]; · iexact Hpay
      iexact HR2
    · iexact HR
  · iexact HX

/-! ## Transfers -/

/-- What any transfer needs: its source's rows, those of its target, and that what lands is what the receiver is promised. -/
theorem step_send (e : Fin 8) (b : Bool) (h : Adv n p (sentAt e)) {sS sR : DmaSem sig} (hS : sS = sendIx p e) (hR : sR = recvIx p e)
    {d : Dev nD} (hd : d = tgt p e c) {s : Shape}
    {src : Memref sig .tc .vmem s .f32} {dst : Memref sig .tc .vmem s .f32} {hsc : dst.view.ref.isScScratch = false}
    {hsrc : src.view.WordExact} {hdst : dst.view.WordExact}
    {hsem : DmaTarget.Typed .vmem (.dma sR) (.remote (Dev.tc d : Thread nD τ) dst (.dma sS) hsc)}
    (hN : dst.view.dmaCredit = credit (len p e)) {q : PosShare TreeShare} {fs : Buf (Elt F) (src.view.loc (c : Thread nD τ))}
    (hfrom : srcOf X p c e = (src.view.loc (c : Thread nD τ) ↦[src.view.set]{q} fs))
    (hto : dstAny (F := F) p c e = iprop(∃ fd, dst.view.loc (d : Thread nD τ) ↦[dst.view.set]{fullShare} fd))
    (hpay : (bif b then iprop(emp) else srcOf X p c e) ⊢ sendPay X p c e)
    (hland : ∀ fd, iprop((dst.view.loc (d : Thread nD τ) ↦[dst.view.set]{fullShare} (dst.view.write (Elt F) fd (src.view.read (Elt F) fs) Finset.univ))
        ∗ bif b then srcOf X p c e else iprop(emp)) ⊢ recvPay X p (tgt p e c) e)
    {k : PUnit → Prog (TpuEff nD τ sig (Elt F) Λ₀ .tc) α} (hk : St X c K (n + 1) ⊢ run c (k ⟨⟩) Q) :
    St X c K n ⊢ run c (.op (.enqueueDma src (.remote (Dev.tc d : Thread nD τ) dst (.dma sS) hsc) (.dma sR) hsrc hdst hsem) k) Q := by
  subst hS hR hd
  obtain ⟨R, hR, hR'⟩ := parts_adv X c h
  obtain ⟨R2, h1, h2⟩ := part_send X p c e
  unfold St at *
  rw [hR, h1, hto]
  rw [hR', h2] at hk
  rw [hfrom] at hpay hland ⊢
  iintro ⟨#HE, ⟨%W, HO⟩, ⟨⟨Ht1, Ht2, Hsrc, ⟨%fd, Hdst⟩, HR2⟩, HR⟩, HX⟩
  iapply (Rounds.wp_send_bif 𝒱₀ ER (hs X) (c : Thread nD τ) none (c' := (tgt p e c : Thread nD τ)) (fs := fs) b
      (R := (dst.view.loc (tgt p e c : Thread nD τ) ↦[dst.view.set]{fullShare} (dst.view.write (Elt F) fd (src.view.read (Elt F) fs) Finset.univ)))
      (κ₁ := K (c, .inr (false, p, e))) (κ₂ := K (tgt p e c, .inr (true, p, e))) (r₁ := 0) (r₂ := 0) (d₁ := 0) (d₂ := 0)
      (mem_duties c false p e)
      (mem_duties (tgt p e c) true p e)
      () () (credit (len p e)) (show dst.view.amount (.dma (recvIx p e)) = _ from hN) (amount_cell X c (.inr (false, p, e)) 0 0) (amount_cell X (tgt p e c) (.inr (true, p, e)) 0 0)
      (O c (n + 1)) (O_send c h) (W := W)
      (hpay.trans (Entails.of_eq (payload_cell X c (.inr (false, p, e)) 0 0).symm))
      ((show (bif b then iprop((dst.view.loc (tgt p e c : Thread nD τ) ↦[dst.view.set]{fullShare} (dst.view.write (Elt F) fd (src.view.read (Elt F) fs) Finset.univ))
            ∗ (src.view.loc (c : Thread nD τ) ↦[src.view.set]{q} fs))
          else (dst.view.loc (tgt p e c : Thread nD τ) ↦[dst.view.set]{fullShare} (dst.view.write (Elt F) fd (src.view.read (Elt F) fs) Finset.univ)) : sProp 𝕄)
          ⊢ recvPay X p (tgt p e c) e from by
        have := hland fd
        cases b
        · exact (sep_emp (PROP := sProp 𝕄)).2.trans this
        · exact this).trans (Entails.of_eq (payload_cell X (tgt p e c) (.inr (true, p, e)) 0 0).symm))) $$ [Hsrc Hdst HO Ht1 Ht2]
  · isplitr; · iapply (Env_inv X K c (.inr (false, p, e))); iexact HE
    isplitr; · iapply (Env_inv X K (tgt p e c) (.inr (true, p, e))); iexact HE
    isplitl [Hsrc]; · iexact Hsrc
    isplitl [Hdst]; · iapply (pointsTo_writeUpdate (tgt p e c : Thread nD τ) (v := dst.view) subset_rfl); iexact Hdst
    isplitl [HO]; · iexact HO
    isplitl [Ht1]; · iexact Ht1
    isplitr; · iapply (Env_reached X K c (.inr (false, p, e))); iexact HE
    isplitl [Ht2]; · iexact Ht2
    iapply (Env_reached X K (tgt p e c) (.inr (true, p, e))); iexact HE
  iintro ⟨Hc, HO⟩
  iapply hk
  isplitr; · iexact HE
  isplitl [HO]; · iexists _; iexact HO
  isplitr [HX]
  · isplitr [HR]
    · isplitl [Hc]; · iexact Hc
      iexact HR2
    · iexact HR
  · iexact HX

section Windowed
variable {off size : Fin 2 → ℕ} {inb : ∀ d, off d + size d ≤ S4096x1024.size d}
  {off' : Fin 2 → ℕ} {inb' : ∀ d, off' d + size d ≤ S4096x1024.size d}

/-- The first transfer: half of the argument into the receive buffer of the device across the first axis. -/
theorem step_send_arg (h : Adv n p (sentAt 0) := by decide +kernel) {sS sR : DmaSem sig} (hS : sS = sendIx p 0 := by rfl) (hR : sR = recvIx p 0 := by rfl)
    {d : Dev nD} (hd : d = tgt p 0 c := by revert c; decide +kernel) (ho : off = ![srcRow p 0 c, 0] := by revert c; decide +kernel) (ho' : off' = ![comRow p 0, 0] := by revert c; decide +kernel) (hs : size = ![len p 0, 1024] := by rfl)
    {hsc : (rM.slice (Rect.unit (s := S4096x1024) off' size inb') (fun _ => rfl)).view.ref.isScScratch = false}
    {hsrc : (xM.slice (Rect.unit (s := S4096x1024) off size inb) (fun _ => rfl)).view.WordExact}
    {hdst : (rM.slice (Rect.unit (s := S4096x1024) off' size inb') (fun _ => rfl)).view.WordExact}
    {hsem : DmaTarget.Typed .vmem (.dma sR) (.remote (Dev.tc d : Thread nD τ) (rM.slice (Rect.unit (s := S4096x1024) off' size inb') (fun _ => rfl)) (.dma sS) hsc)}
    {k : PUnit → Prog (TpuEff nD τ sig (Elt F) Λ₀ .tc) α} (hk : St X c K (n + 1) ⊢ run c (k ⟨⟩) Q) :
    St X c K n ⊢ run c (.op (.enqueueDma (xM.slice (Rect.unit (s := S4096x1024) off size inb) (fun _ => rfl))
      (.remote (Dev.tc d : Thread nD τ) (rM.slice (Rect.unit (s := S4096x1024) off' size inb') (fun _ => rfl)) (.dma sS) hsc) (.dma sR) hsrc hdst hsem) k) Q := by
  refine step_send 0 false h hS hR hd (by subst hs; rfl) (q := fullShare) (fs := X c) ?_ ?_ .rfl (fun fd => ?_) hk
  · rw [xM_set ho hs]; rfl
  · rw [rM_set ho' hs, hd]; rfl
  · rw [rM_set ho' hs, hd]
    refine (sep_emp (PROP := sProp 𝕄)).1.trans (Entails.of_eq ?_)
    refine ptR_congr (F := F) fun i hi => (landed_xr (inb := inb) (inb' := inb') ho ho' hs (X c) fd hi).trans ?_
    show _ = carried X p 0 (mate p 0 (mate p 0 c)) (shift _ (keep1 p (mate p 0 c)) i)
    rw [mate_mate, keep1_mate0]; rfl

/-- The second and third: half of the partial sums into the receive buffer across the second or third axis. The rows sent
    go with what lands: the receiver will store finished rows there. -/
theorem step_send_sum (e : Fin 8) (he : e = 1 ∨ e = 2 := by decide) (h : Adv n p (sentAt e) := by decide +kernel) {sS sR : DmaSem sig} (hS : sS = sendIx p e := by rfl) (hR : sR = recvIx p e := by rfl)
    {d : Dev nD} (hd : d = tgt p e c := by revert c; decide +kernel) (ho : off = ![srcRow p e c, 0] := by revert c; decide +kernel) (ho' : off' = ![comRow p (leg e), 0] := by revert c; decide +kernel) (hs : size = ![len p e, 1024] := by rfl)
    {hsc : (rM.slice (Rect.unit (s := S4096x1024) off' size inb') (fun _ => rfl)).view.ref.isScScratch = false}
    {hsrc : (oM.slice (Rect.unit (s := S4096x1024) off size inb) (fun _ => rfl)).view.WordExact}
    {hdst : (rM.slice (Rect.unit (s := S4096x1024) off' size inb') (fun _ => rfl)).view.WordExact}
    {hsem : DmaTarget.Typed .vmem (.dma sR) (.remote (Dev.tc d : Thread nD τ) (rM.slice (Rect.unit (s := S4096x1024) off' size inb') (fun _ => rfl)) (.dma sS) hsc)}
    {k : PUnit → Prog (TpuEff nD τ sig (Elt F) Λ₀ .tc) α} (hk : St X c K (n + 1) ⊢ run c (k ⟨⟩) Q) :
    St X c K n ⊢ run c (.op (.enqueueDma (oM.slice (Rect.unit (s := S4096x1024) off size inb) (fun _ => rfl))
      (.remote (Dev.tc d : Thread nD τ) (rM.slice (Rect.unit (s := S4096x1024) off' size inb') (fun _ => rfl)) (.dma sS) hsc) (.dma sR) hsrc hdst hsem) k) Q := by
  obtain rfl | rfl := he
  · refine step_send 1 true h hS hR hd (by subst hs; rfl) (q := fullShare) (fs := sum1 X p c) ?_ ?_ .rfl (fun fd => ?_) hk
    · rw [oM_set ho hs]; rfl
    · rw [rM_set ho' hs, hd]; rfl
    · rw [rM_set ho' hs, hd]
      have hl : (ptR (mate p 1 c) (rows (comRow p 1) (comLen p 1)) fullShare
          ((rM.slice (Rect.unit (s := S4096x1024) off' size inb') (fun _ => rfl)).view.write (Elt F) fd
            ((oM.slice (Rect.unit (s := S4096x1024) off size inb) (fun _ => rfl)).view.read (Elt F) (sum1 X p c)) Finset.univ) : sProp 𝕄)
          = ptR (mate p 1 c) (rows (comRow p 1) (comLen p 1)) fullShare (land X p 1 (mate p 1 c)) :=
        ptR_congr (F := F) fun i hi => (landed_or (inb := inb) (inb' := inb') ho ho' hs (sum1 X p c) fd hi).trans (by
          show _ = carried X p 1 (mate p 1 (mate p 1 c)) (shift _ (keep2 p (mate p 1 c)) i)
          rw [mate_mate, keep2_mate1]; rfl)
      have ha : ptO c (rows (sib2 p c) (l2 p)) fullShare (sum1 X p c)
          ⊢ anyO (F := F) (mate p 1 (mate p 1 c)) (rows (keep2 p (mate p 1 c)) (l2 p)) := by
        rw [mate_mate, keep2_mate1]; exact exists_intro (Φ := fun f => ptO c (rows (sib2 p c) (l2 p)) fullShare f) _
      exact BIClass.sep_mono (Entails.of_eq hl) ha
  · refine step_send 2 true h hS hR hd (by subst hs; rfl) (q := fullShare) (fs := sum2 X p c) ?_ ?_ .rfl (fun fd => ?_) hk
    · rw [oM_set ho hs]; rfl
    · rw [rM_set ho' hs, hd]; rfl
    · rw [rM_set ho' hs, hd]
      have hl : (ptR (mate p 2 c) (rows (comRow p 2) (comLen p 2)) fullShare
          ((rM.slice (Rect.unit (s := S4096x1024) off' size inb') (fun _ => rfl)).view.write (Elt F) fd
            ((oM.slice (Rect.unit (s := S4096x1024) off size inb) (fun _ => rfl)).view.read (Elt F) (sum2 X p c)) Finset.univ) : sProp 𝕄)
          = ptR (mate p 2 c) (rows (comRow p 2) (comLen p 2)) fullShare (land X p 2 (mate p 2 c)) :=
        ptR_congr (F := F) fun i hi => (landed_or (inb := inb) (inb' := inb') ho ho' hs (sum2 X p c) fd hi).trans (by
          show _ = carried X p 2 (mate p 2 (mate p 2 c)) (shift _ (keep3 p (mate p 2 c)) i)
          rw [mate_mate, keep3_mate2]; rfl)
      have ha : ptO c (rows (sib3 p c) (l3 p)) fullShare (sum2 X p c)
          ⊢ anyO (F := F) (mate p 2 (mate p 2 c)) (rows (keep3 p (mate p 2 c)) (l3 p)) := by
        rw [mate_mate, keep3_mate2]; exact exists_intro (Φ := fun f => ptO c (rows (sib3 p c) (l3 p)) fullShare f) _
      exact BIClass.sep_mono (Entails.of_eq hl) ha

/-- The share a transfer of finished rows reads them at. -/
def shareOf : Fin 8 → PosShare TreeShare
  | 3 => fullShare.left | 4 => fullShare.right | 5 => fullShare.right | 6 => fullShare.left | _ => fullShare

theorem srcOf_done (e : Fin 8) (he : 3 ≤ e) :
    srcOf X p c e = ptO (F := F) c (rows (srcRow p e c) (len p e)) (shareOf e) (total X) ∧ sendPay X p c e = srcOf X p c e
    ∧ dstAny (F := F) p c e = anyO (tgt p e c) (rows (srcRow p e c) (len p e))
    ∧ recvPay X p (tgt p e c) e = ptO (F := F) (tgt p e c) (rows (srcRow p e c) (len p e)) fullShare (total X) := by
  match e, he with
  | 3, _ => exact ⟨rfl, rfl, rfl, congrArg (fun a => ptO (mate p 2 c) (rows a (l3 p)) fullShare (total X)) (sib3_mate2 p c)⟩
  | 4, _ => exact ⟨rfl, rfl, rfl, congrArg (fun a => ptO (mate p 1 c) (rows a (l3 p)) fullShare (total X)) ((keep3_mate1 p (mate p 1 c)).symm.trans (congrArg (keep3 p) (mate_mate p 1 c)))⟩
  | 5, _ => exact ⟨rfl, rfl, rfl, congrArg (fun a => ptO (mate p 1 c) (rows a (l3 p)) fullShare (total X)) ((sib3_mate1 p (mate p 1 c)).symm.trans (congrArg (sib3 p) (mate_mate p 1 c)))⟩
  | 6, _ => exact ⟨rfl, rfl, rfl, congrArg (fun a => ptO (mate p 0 c) (rows a (l2 p)) fullShare (total X)) ((keep2_mate0 p (mate p 0 c)).symm.trans (congrArg (keep2 p) (mate_mate p 0 c)))⟩
  | 7, _ => exact ⟨rfl, rfl, rfl, congrArg (fun a => ptO (mate p 0 c) (rows a (l2 p)) fullShare (total X)) ((sib2_mate0 p (mate p 0 c)).symm.trans (congrArg (sib2 p) (mate_mate p 0 c)))⟩

/-- The five transfers of finished rows: the same rows of the result on the other device. -/
theorem step_send_done (e : Fin 8) (he : 3 ≤ e := by decide) (h : Adv n p (sentAt e) := by decide +kernel) {sS sR : DmaSem sig} (hS : sS = sendIx p e := by rfl) (hR : sR = recvIx p e := by rfl)
    {d : Dev nD} (hd : d = tgt p e c := by revert c; decide +kernel) (ho : off = ![srcRow p e c, 0] := by revert c; decide +kernel) (ho' : off' = ![srcRow p e c, 0] := by revert c; decide +kernel) (hs : size = ![len p e, 1024] := by rfl)
    {hsc : (oM.slice (Rect.unit (s := S4096x1024) off' size inb') (fun _ => rfl)).view.ref.isScScratch = false}
    {hsrc : (oM.slice (Rect.unit (s := S4096x1024) off size inb) (fun _ => rfl)).view.WordExact}
    {hdst : (oM.slice (Rect.unit (s := S4096x1024) off' size inb') (fun _ => rfl)).view.WordExact}
    {hsem : DmaTarget.Typed .vmem (.dma sR) (.remote (Dev.tc d : Thread nD τ) (oM.slice (Rect.unit (s := S4096x1024) off' size inb') (fun _ => rfl)) (.dma sS) hsc)}
    {k : PUnit → Prog (TpuEff nD τ sig (Elt F) Λ₀ .tc) α} (hk : St X c K (n + 1) ⊢ run c (k ⟨⟩) Q) :
    St X c K n ⊢ run c (.op (.enqueueDma (oM.slice (Rect.unit (s := S4096x1024) off size inb) (fun _ => rfl))
      (.remote (Dev.tc d : Thread nD τ) (oM.slice (Rect.unit (s := S4096x1024) off' size inb') (fun _ => rfl)) (.dma sS) hsc) (.dma sR) hsrc hdst hsem) k) Q := by
  obtain ⟨h1, h2, h3, h4⟩ := srcOf_done (X := X) (c := c) (p := p) e he
  refine step_send e false h hS hR hd (by subst hs; rfl) (q := shareOf e) (fs := total X) ?_ ?_ (Entails.of_eq h2.symm) (fun fd => ?_) hk
  · rw [oM_set ho hs]; exact h1
  · rw [oM_set ho' hs, hd]; exact h3
  · rw [oM_set ho' hs, hd, h4]
    refine (sep_emp (PROP := sProp 𝕄)).1.trans (Entails.of_eq ?_)
    exact ptO_congr (F := F) fun i hi => (landed_oo (inb := inb) (inb' := inb') ho ho' hs (total X) fd hi).trans (by rw [shift_self hi])

/-! ## Loads and stores -/

/-- The halving a store belongs to, and the row of the receive buffer it adds from. -/
def legOf : Fin 5 → Fin 3 := ![0, 0, 1, 1, 2]
def comAt (p : Fin 6) (c : Dev nD) (j : Fin 5) : ℕ :=
  comRow p (legOf j) + (stRow p c j - ![keep1 p c, keep2 p c, keep3 p c] (legOf j))

theorem swap_first (A B R : sProp 𝕄) : iprop((A ∗ B) ∗ R) = iprop(B ∗ A ∗ R) := by ac_rfl

theorem parts_mem (X : Dev nD → Cont F) (c : Dev nD) (n : ℕ) (p : Fin 6) : ∃ R, Parts X c n = iprop(Mem X p c (2 * steps n p) ∗ R) := by
  unfold Parts Part
  rw [bigSep_erase (Finset.mem_univ p)]
  exact ⟨_, swap_first _ _ _⟩

theorem bit_le (p : Fin 6) (k : Fin 3) (c : Dev nD) : bit p k c ≤ 1 := by
  rcases bit_cases p k c with h | h <;> omega

theorem st_within (p : Fin 6) (c : Dev nD) (j : Fin 5) :
    ![keep1 p c, keep2 p c, keep3 p c] (legOf j) ≤ stRow p c j
    ∧ stRow p c j + stLen p j ≤ ![keep1 p c, keep2 p c, keep3 p c] (legOf j) + comLen p (legOf j) := by
  have h1 : l1 p = 2 * l2 p := by revert p; decide
  have h2 : l2 p = 2 * l3 p := by revert p; decide
  match j with
  | 0 | 1 =>
    show keep1 p c ≤ _ ∧ _ ≤ keep1 p c + l1 p
    simp only [stRow, stLen, sib2, keep2]
    rcases bit_cases p 1 c with h | h <;> rw [h] <;> omega
  | 2 | 3 =>
    show keep2 p c ≤ _ ∧ _ ≤ keep2 p c + l2 p
    simp only [stRow, stLen, sib3, keep3]
    rcases bit_cases p 2 c with h | h <;> rw [h] <;> omega
  | 4 => exact ⟨le_refl _, le_refl _⟩

theorem com_fits : ∀ p k, comRow p k + comLen p k ≤ 4096 := by decide

/-- A load from the kept half of the argument. -/
theorem step_load_arg (j : Fin 5) (hj : legOf j = 0 := by decide) (ho : off = ![stRow p c j, 0] := by revert c; decide +kernel) (hs : size = ![stLen p j, 1024] := by rfl)
    {hl : xM.view.LoadsAt (Rect.unit (s := S4096x1024) off size inb).toLoadRect}
    {k : ((Rect.unit (s := S4096x1024) off size inb).shape.Idx → Elt F .f32) → Prog (TpuEff nD τ sig (Elt F) Λ₀ .tc) α}
    (hk : St X c K n ⊢ run c (k (win off size inb (X c))) Q) :
    St X c K n ⊢ run c (.op (.load xM (Rect.unit (s := S4096x1024) off size inb).toLoadRect hl) k) Q := by
  obtain ⟨R, hR⟩ := parts_mem X c n p
  obtain ⟨R2, hR2⟩ := mem_arg X p c (2 * steps n p)
  have hw := st_within p c j
  rw [hj] at hw
  unfold St at *
  rw [hR, hR2] at hk ⊢
  iintro ⟨HE, HO, ⟨⟨Hx, HR2⟩, HR⟩, HX⟩
  iapply (show ptX c (rows (keep1 p c) (l1 p)) fullShare (X c)
      ⊢ iprop((ptX c (rows (keep1 p c) (l1 p)) fullShare (X c) -∗ run c (k (win off size inb (X c))) Q) -∗ run c (.op (.load xM _ hl) k) Q) from
    wp_load_rect 𝒱₀ (c : Thread nD τ) none Set.univ (m := xM) (r := Rect.unit (s := S4096x1024) off size inb)
      ((xM_set (inb := inb) ho hs).trans_subset (rows_subset hw))) $$ Hx
  iintro Hx
  iapply hk
  iframe

theorem landed_by : ∀ j : Fin 5, ![6, 16, 26] (legOf j) ≤ 2 * (storeAt j - 1) := by decide

/-- A load from what has landed in the receive buffer. -/
theorem step_load_com (j : Fin 5) (h : Adv n p (storeAt j) := by decide +kernel) (ho : off = ![comAt p c j, 0] := by revert c; decide +kernel) (hs : size = ![stLen p j, 1024] := by rfl)
    {hl : rM.view.LoadsAt (Rect.unit (s := S4096x1024) off size inb).toLoadRect}
    {k : ((Rect.unit (s := S4096x1024) off size inb).shape.Idx → Elt F .f32) → Prog (TpuEff nD τ sig (Elt F) Λ₀ .tc) α}
    (hk : St X c K n ⊢ run c (k (win off size inb (land X p (legOf j) c))) Q) :
    St X c K n ⊢ run c (.op (.load rM (Rect.unit (s := S4096x1024) off size inb).toLoadRect hl) k) Q := by
  obtain ⟨R, hR⟩ := parts_mem X c n p
  obtain ⟨R2, hR2⟩ := mem_land X p c (2 * steps n p) (legOf j) (by
    rw [show steps n p = storeAt j - 1 by have := h.1; omega]; exact landed_by j)
  have hw := st_within p c j
  unfold St at *
  rw [hR, hR2] at hk ⊢
  iintro ⟨HE, HO, ⟨⟨Hx, HR2⟩, HR⟩, HX⟩
  iapply (show ptR c (rows (comRow p (legOf j)) (comLen p (legOf j))) fullShare (land X p (legOf j) c)
      ⊢ iprop((ptR c (rows (comRow p (legOf j)) (comLen p (legOf j))) fullShare (land X p (legOf j) c) -∗ run c (k (win off size inb (land X p (legOf j) c))) Q)
        -∗ run c (.op (.load rM _ hl) k) Q) from
    wp_load_rect 𝒱₀ (c : Thread nD τ) none Set.univ (m := rM) (r := Rect.unit (s := S4096x1024) off size inb)
      ((rM_set (inb := inb) ho hs).trans_subset (rows_subset (by unfold comAt; omega)))) $$ Hx
  iintro Hx
  iapply hk
  iframe

/-- A load of the rows of the result that the next store of the part will replace. -/
theorem step_load_old (j : Fin 5) (h : Adv n p (storeAt j) := by decide +kernel) (ho : off = ![stRow p c j, 0] := by revert c; decide +kernel) (hs : size = ![stLen p j, 1024] := by rfl)
    {hl : oM.view.LoadsAt (Rect.unit (s := S4096x1024) off size inb).toLoadRect}
    {k : ((Rect.unit (s := S4096x1024) off size inb).shape.Idx → Elt F .f32) → Prog (TpuEff nD τ sig (Elt F) Λ₀ .tc) α}
    (hk : ∀ g : Cont F, (∀ f, stOld X p c j = some f → g = f) → St X c K n ⊢ run c (k (win off size inb g)) Q) :
    St X c K n ⊢ run c (.op (.load oM (Rect.unit (s := S4096x1024) off size inb).toLoadRect hl) k) Q := by
  obtain ⟨R, hR, -⟩ := parts_adv X c h
  obtain ⟨R2, hR2, -⟩ := part_store X p c j
  have ho' : oldOf X p c j ⊢ iprop(∃ g, ⌜∀ f, stOld X p c j = some f → g = f⌝ ∗ ptO c (rows (stRow p c j) (stLen p j)) fullShare g) := by
    unfold oldOf
    cases hf : stOld X p c j with
    | none =>
      show anyO _ _ ⊢ _
      unfold anyO
      iintro ⟨%g, H⟩; iexists g; isplitr
      · ipureintro; intro f hf; cases hf
      · iexact H
    | some f =>
      show ptO _ _ _ _ ⊢ _
      iintro H; iexists f; isplitr
      · ipureintro; intro f' hf; cases hf; rfl
      · iexact H
  have hb : ∀ g, (∀ f, stOld X p c j = some f → g = f) → ptO c (rows (stRow p c j) (stLen p j)) fullShare g ⊢ oldOf X p c j := by
    intro g hg
    unfold oldOf
    cases hf : stOld X p c j with
    | none => show _ ⊢ anyO _ _; unfold anyO; iintro H; iexists g; iexact H
    | some f => rw [hg f hf]; exact .rfl
  unfold St at *
  rw [hR, hR2] at hk ⊢
  iintro ⟨HE, HO, ⟨⟨Hx, HR2⟩, HR⟩, HX⟩
  ihave Hx := ho' $$ Hx
  icases Hx with ⟨%g, %hg, Hx⟩
  iapply (show ptO c (rows (stRow p c j) (stLen p j)) fullShare g
      ⊢ iprop((ptO c (rows (stRow p c j) (stLen p j)) fullShare g -∗ run c (k (win off size inb g)) Q) -∗ run c (.op (.load oM _ hl) k) Q) from
    wp_load_rect 𝒱₀ (c : Thread nD τ) none Set.univ (m := oM) (r := Rect.unit (s := S4096x1024) off size inb)
      (oM_set (inb := inb) ho hs).subset) $$ Hx
  iintro Hx
  ihave Hx := (hb g hg) $$ Hx
  iapply (hk g hg)
  iframe

/-- A store of the new partial sums. -/
theorem step_store (j : Fin 5) (h : Adv n p (storeAt j) := by decide +kernel) (ho : off = ![stRow p c j, 0] := by revert c; decide +kernel) (hs : size = ![stLen p j, 1024] := by rfl)
    {w : (Rect.unit (s := S4096x1024) off size inb).shape.Idx → Elt F .f32} (hw : w = win off size inb (stNew X p c j))
    {hx : (oM.access (Rect.unit (s := S4096x1024) off size inb)).Stores Finset.univ}
    {hm : (Finset.univ : Finset (Rect.unit (s := S4096x1024) off size inb).shape.Idx) = Finset.univ
      ∨ ∀ a, (Rect.unit (s := S4096x1024) off size inb).stride a = 1}
    {k : PUnit → Prog (TpuEff nD τ sig (Elt F) Λ₀ .tc) α}
    (hk : St X c K (n + 1) ⊢ run c (k ⟨⟩) Q) :
    St X c K n ⊢ run c (.op (.store oM (Rect.unit (s := S4096x1024) off size inb) w Finset.univ hx hm) k) Q := by
  subst hw
  obtain ⟨R, hR, hR'⟩ := parts_adv X c h
  obtain ⟨R2, h1, h2⟩ := part_store X p c j
  have ho' : oldOf X p c j ⊢ iprop(∃ g, ptO c (rows (stRow p c j) (stLen p j)) fullShare g) := by
    unfold oldOf
    cases stOld X p c j with
    | none => exact .rfl
    | some f => show ptO _ _ _ _ ⊢ _; iintro H; iexists f; iexact H
  unfold St at *
  rw [hR, h1]
  rw [hR', ← h2, O_same c h fun e' => sent_ne_store _ _] at hk
  iintro ⟨HE, HO, ⟨⟨Hx, HR2⟩, HR⟩, HX⟩
  ihave Hx := ho' $$ Hx
  icases Hx with ⟨%g, Hx⟩
  iapply (show ptO c (rows (stRow p c j) (stLen p j)) fullShare g
      ⊢ iprop((ptO c (rows (stRow p c j) (stLen p j)) fullShare (stNew X p c j) -∗ run c (k ⟨⟩) Q)
        -∗ run c (.op (.store oM _ (win off size inb (stNew X p c j)) Finset.univ hx hm) k) Q) from by
    rw [← ptO_congr (F := F) (c := c) (q := fullShare) fun i hi => stored (inb := inb) ho hs (stNew X p c j) g hi]
    exact wp_store 𝒱₀ (c : Thread nD τ) none Set.univ (m := oM) (r := Rect.unit (s := S4096x1024) off size inb) (Mk := Finset.univ)
      (oM_set (inb := inb) ho hs).subset) $$ Hx
  iintro Hx
  iapply hk
  iframe

/-- From the second halving on, the rows to be replaced hold the partial sums so far. -/
theorem stOld_carried (j : Fin 5) (hj : 2 ≤ j) : stOld X p c j = some (carried X p (legOf j) c) := by
  match j, hj with
  | 2, _ => rfl
  | 3, _ => rfl
  | 4, _ => rfl

/-- A load of rows about to be replaced, whatever they hold. -/
theorem step_load_any (j : Fin 5) (h : Adv n p (storeAt j) := by decide +kernel) (ho : off = ![stRow p c j, 0] := by revert c; decide +kernel) (hs : size = ![stLen p j, 1024] := by rfl)
    {hl : oM.view.LoadsAt (Rect.unit (s := S4096x1024) off size inb).toLoadRect}
    {k : ((Rect.unit (s := S4096x1024) off size inb).shape.Idx → Elt F .f32) → Prog (TpuEff nD τ sig (Elt F) Λ₀ .tc) α}
    (hk : ∀ g : Cont F, St X c K n ⊢ run c (k (win off size inb g)) Q) :
    St X c K n ⊢ run c (.op (.load oM (Rect.unit (s := S4096x1024) off size inb).toLoadRect hl) k) Q :=
  step_load_old j h ho hs fun g _ => hk g

/-- A load of rows that hold partial sums. -/
theorem step_load_sum (j : Fin 5) (hj : 2 ≤ j := by decide) (h : Adv n p (storeAt j) := by decide +kernel) (ho : off = ![stRow p c j, 0] := by revert c; decide +kernel) (hs : size = ![stLen p j, 1024] := by rfl)
    {hl : oM.view.LoadsAt (Rect.unit (s := S4096x1024) off size inb).toLoadRect}
    {k : ((Rect.unit (s := S4096x1024) off size inb).shape.Idx → Elt F .f32) → Prog (TpuEff nD τ sig (Elt F) Λ₀ .tc) α}
    (hk : St X c K n ⊢ run c (k (win off size inb (carried X p (legOf j) c))) Q) :
    St X c K n ⊢ run c (.op (.load oM (Rect.unit (s := S4096x1024) off size inb).toLoadRect hl) k) Q := by
  refine step_load_old j h ho hs fun g hg => ?_
  rw [hg _ (stOld_carried j hj)]
  exact hk

/-- What a store writes: the kept rows plus what landed. -/
theorem win_sum (j : Fin 5) (ho : off = ![stRow p c j, 0] := by revert c; decide +kernel) (ho' : off' = ![comAt p c j, 0] := by revert c; decide +kernel) (hs : size = ![stLen p j, 1024] := by rfl) :
    addf (F := F) (φ := .f32) (win off size inb (carried X p (legOf j) c)) (win off' size inb' (land X p (legOf j) c))
      = win off size inb (stNew X p c j) := by
  have hw := st_within p c j
  have hf := com_fits p (legOf j)
  funext i
  have hi := emb_mem (inb := inb) ho hs i
  have he : shift (comRow p (legOf j)) (![keep1 p c, keep2 p c, keep3 p c] (legOf j)) ((Rect.unit (s := S4096x1024) off' size inb').emb i)
      = (Rect.unit (s := S4096x1024) off size inb).emb i := by
    rw [emb_unit off size inb off' inb' ho ho' i, shift_shift hi (show comAt p c j + stLen p j ≤ 4096 by unfold comAt; omega) (show comRow p (legOf j) ≤ comAt p c j by unfold comAt; omega)]
    rw [show comAt p c j - comRow p (legOf j) + ![keep1 p c, keep2 p c, keep3 p c] (legOf j) = stRow p c j by unfold comAt; omega]
    exact shift_self hi
  show FloatOps.addf (carried X p (legOf j) c _) (carried X p (legOf j) (mate p (legOf j) c) _) = stNew X p c j _
  rw [he]
  match j with
  | 0 | 1 | 2 | 3 | 4 => rfl

/-- A whole addition from the argument: the kept rows and what landed are loaded, and their sum stored. -/
theorem step_add_arg (j : Fin 5) (hj : legOf j = 0 := by decide) (h : Adv n p (storeAt j) := by decide +kernel)
    (ho : off = ![stRow p c j, 0] := by revert c; decide +kernel) (ho' : off' = ![comAt p c j, 0] := by revert c; decide +kernel)
    (hs : size = ![stLen p j, 1024] := by rfl)
    {hl : xM.view.LoadsAt (Rect.unit (s := S4096x1024) off size inb).toLoadRect}
    {hl' : rM.view.LoadsAt (Rect.unit (s := S4096x1024) off' size inb').toLoadRect}
    {hl'' : oM.view.LoadsAt (Rect.unit (s := S4096x1024) off size inb).toLoadRect}
    {w : ((Rect.unit (s := S4096x1024) off size inb).shape.Idx → Elt F .f32) → ((Rect.unit (s := S4096x1024) off size inb).shape.Idx → Elt F .f32)
      → (Rect.unit (s := S4096x1024) off size inb).shape.Idx → Elt F .f32}
    {hx : (oM.access (Rect.unit (s := S4096x1024) off size inb)).Stores Finset.univ}
    {hm : (Finset.univ : Finset (Rect.unit (s := S4096x1024) off size inb).shape.Idx) = Finset.univ
      ∨ ∀ a, (Rect.unit (s := S4096x1024) off size inb).stride a = 1}
    {k : PUnit → Prog (TpuEff nD τ sig (Elt F) Λ₀ .tc) α}
    (hw : ∀ a b, w a b = addf (F := F) (φ := .f32) a b) (hk : St X c K (n + 1) ⊢ run c (k ⟨⟩) Q) :
    St X c K n ⊢ run c (.op (.load xM (Rect.unit (s := S4096x1024) off size inb).toLoadRect hl) fun a =>
      .op (.load rM (Rect.unit (s := S4096x1024) off' size inb').toLoadRect hl') fun b =>
      .op (.load oM (Rect.unit (s := S4096x1024) off size inb).toLoadRect hl'') fun _ =>
      .op (.store oM (Rect.unit (s := S4096x1024) off size inb) (w a b) Finset.univ hx hm) k) Q := by
  have hl : carried X p (legOf j) c = X c := by rw [hj]; rfl
  refine step_load_arg j hj ho hs (step_load_com j h ho' hs (step_load_old j h ho hs fun g hg => step_store j h ho hs ?_ hk))
  rw [hw, ← hl]
  exact win_sum j ho ho' hs

/-- A whole addition to the partial sums. -/
theorem step_add_sum (j : Fin 5) (hj : 2 ≤ j := by decide) (h : Adv n p (storeAt j) := by decide +kernel)
    (ho : off = ![stRow p c j, 0] := by revert c; decide +kernel) (ho' : off' = ![comAt p c j, 0] := by revert c; decide +kernel)
    (hs : size = ![stLen p j, 1024] := by rfl)
    {hl : oM.view.LoadsAt (Rect.unit (s := S4096x1024) off size inb).toLoadRect}
    {hl' : rM.view.LoadsAt (Rect.unit (s := S4096x1024) off' size inb').toLoadRect}
    {hl'' : oM.view.LoadsAt (Rect.unit (s := S4096x1024) off size inb).toLoadRect}
    {w : ((Rect.unit (s := S4096x1024) off size inb).shape.Idx → Elt F .f32) → ((Rect.unit (s := S4096x1024) off size inb).shape.Idx → Elt F .f32)
      → (Rect.unit (s := S4096x1024) off size inb).shape.Idx → Elt F .f32}
    {hx : (oM.access (Rect.unit (s := S4096x1024) off size inb)).Stores Finset.univ}
    {hm : (Finset.univ : Finset (Rect.unit (s := S4096x1024) off size inb).shape.Idx) = Finset.univ
      ∨ ∀ a, (Rect.unit (s := S4096x1024) off size inb).stride a = 1}
    {k : PUnit → Prog (TpuEff nD τ sig (Elt F) Λ₀ .tc) α}
    (hw : ∀ a b, w a b = addf (F := F) (φ := .f32) a b) (hk : St X c K (n + 1) ⊢ run c (k ⟨⟩) Q) :
    St X c K n ⊢ run c (.op (.load oM (Rect.unit (s := S4096x1024) off size inb).toLoadRect hl) fun a =>
      .op (.load rM (Rect.unit (s := S4096x1024) off' size inb').toLoadRect hl') fun b =>
      .op (.load oM (Rect.unit (s := S4096x1024) off size inb).toLoadRect hl'') fun _ =>
      .op (.store oM (Rect.unit (s := S4096x1024) off size inb) (w a b) Finset.univ hx hm) k) Q := by
  refine step_load_old j h ho hs fun g hg => step_load_com j h ho' hs (step_load_old j h ho hs fun _ _ => step_store j h ho hs ?_ hk)
  rw [hw, hg _ (stOld_carried j hj)]
  exact win_sum j ho ho' hs

end Windowed

end Steps

end Cert.KernelProof

end
-- ==== Proof.Buffers.lean ====
/-
# Whole buffers and their parts

A device starts and ends with its three buffers whole. Here they are cut into the rows of the six parts, each part into
what the device keeps and what it hands to its mates at entry, and the rows left at the end are put together again.
-/
module

public import proofs.«01_k».proof.Proof.Book

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The order in which rows are listed does not matter. -/
local instance : Std.Commutative (α := sProp 𝕄) BIBase.sep := ⟨fun P Q => BI.equiv_iff.mp ⟨BI.sep_comm, BI.sep_comm⟩⟩
local instance : Std.Associative (α := sProp 𝕄) BIBase.sep := ⟨fun P Q R => BI.equiv_iff.mp ⟨BI.sep_assoc, BI.sep_assoc'⟩⟩

/-! ## The six parts -/

section Whole
omit [FloatOps F]

/-- The parts' rows lie one after the other and make up the buffer. -/
theorem by_parts (P : Finset S4096x1024.Idx → sProp 𝕄) (hP : ∀ I J, Disjoint I J → P (I ∪ J) = iprop(P I ∗ P J)) :
    P Finset.univ = bigSep Finset.univ fun p : Fin 6 => P (rows (base p) (2 * l1 p)) := by
  have h : ∀ a n k, P (rows a (n + k)) = iprop(P (rows a n) ∗ P (rows (a + n) k)) := fun a n k => by
    rw [rows_union a n k, hP _ _ (rows_disjoint (Or.inl le_rfl))]
  rw [bigSep_univ_eq_bigSepL [0, 1, 2, 3, 4, 5] (by decide) (by decide), ← rows_all]
  rw [h 0 704 3392, h 704 704 2688, h 1408 704 1984, h 2112 640 1344, h 2752 704 640]
  rfl

theorem ptX_parts (c : Dev nD) (q : PosShare TreeShare) (f : Cont F) :
    ptX c Finset.univ q f = bigSep Finset.univ fun p : Fin 6 => ptX c (rows (base p) (2 * l1 p)) q f :=
  by_parts (fun I => ptX c I q f) fun _ _ h => ptX_union h
theorem ptO_parts (c : Dev nD) (q : PosShare TreeShare) (f : Cont F) :
    ptO c Finset.univ q f = bigSep Finset.univ fun p : Fin 6 => ptO c (rows (base p) (2 * l1 p)) q f :=
  by_parts (fun I => ptO c I q f) fun _ _ h => ptO_union h

theorem anyR_union {c : Dev nD} {I J : Finset S4096x1024.Idx} (h : Disjoint I J) :
    anyR (F := F) c (I ∪ J) = iprop(anyR (F := F) c I ∗ anyR (F := F) c J) := by
  refine BI.equiv_iff.mp ⟨?_, ?_⟩
  · show anyR (F := F) c (I ∪ J) ⊢ iprop(anyR (F := F) c I ∗ anyR (F := F) c J)
    unfold anyR
    iintro ⟨%f, H⟩
    ihave H := (Entails.of_eq (ptR_union h)) $$ H
    icases H with ⟨H1, H2⟩
    isplitl [H1]
    · iexists f; iexact H1
    · iexists f; iexact H2
  · show iprop(anyR (F := F) c I ∗ anyR (F := F) c J) ⊢ anyR (F := F) c (I ∪ J)
    unfold anyR
    iintro ⟨⟨%f, H1⟩, ⟨%g, H2⟩⟩
    iexists (fun i => if i ∈ I then f i else g i : Cont F)
    iapply (Entails.of_eq (ptR_union (F := F) (c := c) (q := fullShare) (f := fun i => if i ∈ I then f i else g i) h).symm)
    isplitl [H1]
    · iapply (Entails.of_eq (ptR_congr (F := F) (c := c) (q := fullShare) (f := f) (g := fun i => if i ∈ I then f i else g i) fun i hi => (if_pos hi).symm)); iexact H1
    · iapply (Entails.of_eq (ptR_congr (F := F) (c := c) (q := fullShare) (f := g) (g := fun i => if i ∈ I then f i else g i) fun i hi =>
        (if_neg fun hi' => Finset.disjoint_left.mp h hi' hi).symm)); iexact H2

theorem anyR_parts (c : Dev nD) :
    anyR (F := F) c Finset.univ = bigSep Finset.univ fun p : Fin 6 => anyR (F := F) c (rows (base p) (2 * l1 p)) :=
  by_parts (fun I => anyR c I) fun _ _ h => anyR_union h

/-- The receive buffer's part: a region for each leg, and rows never used. -/
theorem anyR_regions (p : Fin 6) (c : Dev nD) : anyR (F := F) c (rows (base p) (2 * l1 p))
    = iprop(anyR (F := F) c (rows (comRow p 0) (comLen p 0)) ∗ anyR (F := F) c (rows (comRow p 1) (comLen p 1))
        ∗ anyR (F := F) c (rows (comRow p 2) (comLen p 2)) ∗ anyR (F := F) c (rows (base p + 7 * l3 p) (l3 p))) := by
  have h : ∀ a n k, anyR (F := F) c (rows a (n + k)) = iprop(anyR (F := F) c (rows a n) ∗ anyR (F := F) c (rows (a + n) k)) := fun a n k => by
    rw [rows_union a n k, anyR_union (rows_disjoint (Or.inl le_rfl))]
  rw [show 2 * l1 p = l1 p + (l2 p + (l3 p + l3 p)) by unfold l1 l2; omega, h, h, h]
  rw [show base p + l1 p + l2 p + l3 p = base p + 7 * l3 p by unfold l1 l2; omega]
  rw [show base p + l1 p + l2 p = base p + 3 * l2 p by unfold l1 l2; omega, show base p + l1 p = base p + 2 * l2 p by unfold l1 l2; omega]
  rfl

end Whole

/-! ## Entry -/

section Entry
variable (X : Dev nD → Cont F) (p : Fin 6) (c : Dev nD)

/-- What a device keeps of a part at entry. -/
def Kept : sProp 𝕄 := iprop(
  ptX c (rows (keep1 p c) (l1 p)) fullShare (X c) ∗ ptX c (rows (sib1 p c) (l1 p)) fullShare (X c)
  ∗ anyR (F := F) c (rows (base p + 7 * l3 p) (l3 p))
  ∗ anyO (F := F) c (rows (sib2 p c) (l2 p)) ∗ anyO (F := F) c (rows (keep2 p c) (l2 p)))

theorem bigSep_legs (Φ : Fin 3 → sProp 𝕄) : bigSep Finset.univ Φ = iprop(Φ 0 ∗ Φ 1 ∗ Φ 2) :=
  bigSep_univ_eq_bigSepL [0, 1, 2] (by decide) (by decide) Φ

theorem anyO_part : anyO (F := F) c (rows (base p) (2 * l1 p)) ⊢ iprop((anyO (F := F) c (rows (keep2 p c) (l2 p)) ∗ anyO (F := F) c (rows (sib2 p c) (l2 p)))
    ∗ anyO (F := F) c (rows (far2a p c) (l2 p)) ∗ anyO (F := F) c (rows (far2b p c) (l2 p))) :=
  (anyO_split c (part_split p c)).trans (BIClass.sep_mono (anyO_split c (keep1_split p c)) (anyO_split c (sib1_split p c)))

/-- A part's rows are what is kept and what the mates are given. -/
theorem part_give : iprop(ptX c (rows (base p) (2 * l1 p)) fullShare (X c) ∗ anyO (F := F) c (rows (base p) (2 * l1 p))
      ∗ anyR (F := F) c (rows (base p) (2 * l1 p)))
    ⊢ iprop(Kept X p c ∗ bigSep Finset.univ fun k => given (F := F) p (mate p k c) k) := by
  rw [anyR_regions, (part_split p c).1, ptX_union (part_split p c).2, ← (part_split p c).1, bigSep_legs]
  refine (BIClass.sep_mono .rfl (BIClass.sep_mono (anyO_part p c) .rfl)).trans (Entails.of_eq ?_)
  simp only [given, mate_mate, keep2_mate0, sib2_mate0, Kept]
  ac_rfl

/-- With what its mates give, a device has what it needs for the first step. -/
theorem part_take : iprop(Kept X p c ∗ bigSep Finset.univ fun k => given (F := F) p c k) = Mem X p c 0 := by
  rw [bigSep_legs]
  simp only [given, Kept, Mem, MemRest, on_true, on_false, none_sep, sep_none, decide_true, decide_false,
      _root_.or_true, _root_.true_or, _root_.or_false, _root_.false_or, _root_.and_true, _root_.true_and, _root_.and_false, _root_.false_and, Nat.reduceLT, Nat.reduceLeDiff]
  ac_rfl

end Entry

section Barrier
variable (X : Dev nD → Cont F) (c : Dev nD)

theorem mate_legAt (p : Fin 6) (d : Fin 3) : mate p (legAt p d) c = peer d c := by unfold mate; rw [axis_legAt]

/-- Legs and axes, matched. -/
def legEquiv (p : Fin 6) : Fin 3 ≃ Fin 3 := ⟨legAt p, axis p, axis_legAt p, legAt_axis p⟩

/-- What is given along the three axes, listed by parts and legs. -/
theorem barPay_legs (g : Fin 6 → Fin 3 → Dev nD) (h : Fin 3 → Dev nD) (hg : ∀ p d, g p (legAt p d) = h d) :
    (bigSep Finset.univ fun p => bigSep Finset.univ fun k => given (F := F) p (g p k) k)
      = bigSep Finset.univ fun d => barPay (F := F) (h d) d := by
  rw [bigSep_congr fun p _ => bigSep_univ_equiv (legEquiv p) fun k => given (F := F) p (g p k) k, bigSep_univ_comm]
  refine bigSep_congr fun d _ => bigSep_congr fun p _ => ?_
  show given (F := F) p (g p (legAt p d)) (legAt p d) = _
  rw [hg]

/-- A device's buffers are what it keeps and what its signals carry. -/
theorem all_give : iprop(ptX c Finset.univ fullShare (X c) ∗ anyO (F := F) c Finset.univ ∗ anyR (F := F) c Finset.univ)
    ⊢ iprop((bigSep Finset.univ fun p => Kept X p c) ∗ bigSep Finset.univ fun d => barPay (F := F) (peer d c) d) := by
  rw [← barPay_legs (fun p k => mate p k c) (fun d => peer d c) fun p d => mate_legAt c p d, ← bigSep_sep', anyR_parts, ptX_parts]
  unfold anyO
  iintro ⟨HX, ⟨%f, HO⟩, HR⟩
  ihave HO := (Entails.of_eq (ptO_parts c fullShare f)) $$ HO
  iapply (show iprop((bigSep Finset.univ fun p : Fin 6 => ptX c (rows (base p) (2 * l1 p)) fullShare (X c))
      ∗ (bigSep Finset.univ fun p : Fin 6 => ptO c (rows (base p) (2 * l1 p)) fullShare f)
      ∗ bigSep Finset.univ fun p : Fin 6 => anyR (F := F) c (rows (base p) (2 * l1 p))) ⊢ _ from by
    rw [← bigSep_sep', ← bigSep_sep']
    refine bigSep_mono fun p _ => (BIClass.sep_mono .rfl (BIClass.sep_mono ?_ .rfl)).trans (part_give X p c)
    unfold anyO; iintro H; iexists f; iexact H)
  isplitl [HX]; · iexact HX
  isplitl [HO] <;> iassumption

theorem all_take : iprop((bigSep Finset.univ fun p => Kept X p c) ∗ bigSep Finset.univ fun d => barPay (F := F) c d)
    = bigSep Finset.univ fun p => Mem X p c 0 := by
  rw [← barPay_legs (fun _ _ => c) (fun _ => c) fun _ _ => rfl, ← bigSep_sep']
  exact bigSep_congr fun p _ => part_take X p c

end Barrier

/-! ## The end -/

section Last
variable (X : Dev nD → Cont F) (c : Dev nD)

theorem part_last (p : Fin 6) : Mem X p c 58
    ⊢ iprop(ptX c (rows (base p) (2 * l1 p)) fullShare (X c) ∗ ptO c (rows (base p) (2 * l1 p)) fullShare (total X)
      ∗ anyR (F := F) c (rows (base p) (2 * l1 p))) := by
  have hr : ∀ k : Fin 3, ptR c (rows (comRow p k) (comLen p k)) fullShare (land X p k c) ⊢ anyR (F := F) c (rows (comRow p k) (comLen p k)) := by
    intro k; unfold anyR; iintro H; iexists _; iexact H
  have ho : ptO c (rows (base p) (2 * l1 p)) fullShare (total X)
      = iprop(((ptO c (rows (keep3 p c) (l3 p)) fullShare.left (total X) ∗ ptO c (rows (keep3 p c) (l3 p)) fullShare.right (total X))
          ∗ (ptO c (rows (sib3 p c) (l3 p)) fullShare.left (total X) ∗ ptO c (rows (sib3 p c) (l3 p)) fullShare.right (total X)))
        ∗ (ptO c (rows (far3a p c) (l3 p)) fullShare (total X) ∗ ptO c (rows (far3b p c) (l3 p)) fullShare (total X))
        ∗ ptO c (rows (far2a p c) (l2 p)) fullShare (total X) ∗ ptO c (rows (far2b p c) (l2 p)) fullShare (total X)) := by
    rw [(part_split p c).1, ptO_union (part_split p c).2, (keep1_split p c).1, ptO_union (keep1_split p c).2, (sib1_split p c).1,
      ptO_union (sib1_split p c).2, ptO_keep2 p c c, ptO_sib2 p c c, ptO_halves (I := rows (keep3 p c) (l3 p)), ptO_halves (I := rows (sib3 p c) (l3 p))]
    ac_rfl
  rw [anyR_regions, ho, (part_split p c).1, ptX_union (part_split p c).2]
  refine Entails.trans (Q := iprop((ptR c (rows (comRow p 0) (comLen p 0)) fullShare (land X p 0 c) ∗ ptR c (rows (comRow p 1) (comLen p 1)) fullShare (land X p 1 c)
    ∗ ptR c (rows (comRow p 2) (comLen p 2)) fullShare (land X p 2 c)) ∗ MemRest X p c 58 ∗ ptX c (rows (keep1 p c) (l1 p)) fullShare (X c))) (Entails.of_eq ?_)
    ((BIClass.sep_mono (BIClass.sep_mono (hr 0) (BIClass.sep_mono (hr 1) (hr 2))) .rfl).trans (Entails.of_eq ?_))
  · simp only [Mem, on_true, on_false, decide_true, Nat.reduceLeDiff]
    ac_rfl
  · simp only [MemRest, on_true, on_false, none_sep, sep_none, decide_true, decide_false,
      _root_.or_true, _root_.true_or, _root_.or_false, _root_.false_or, _root_.and_true, _root_.true_and, _root_.and_false, _root_.false_and, Nat.reduceLT, Nat.reduceLeDiff]
    ac_rfl

theorem all_last : (bigSep Finset.univ fun p => Mem X p c 58)
    ⊢ iprop(ptX c Finset.univ fullShare (X c) ∗ ptO c Finset.univ fullShare (total X) ∗ anyR (F := F) c Finset.univ) := by
  rw [anyR_parts, ptX_parts, ptO_parts, ← bigSep_sep', ← bigSep_sep']
  exact bigSep_mono fun p _ => part_last X c p

end Last

end Cert.KernelProof

end
-- ==== Proof.Barriers.lean ====
/-
# The two barriers

Before the first step a device tells its three mates that it has entered, handing each the rows that mate will write, and
waits for theirs; after the last step the three tell each other that they are done. Between the two lie the steps of the
state `St`; `Start` is what a device has before the first barrier and `Done` what it has after the second.
-/
module

public import proofs.«01_k».proof.Proof.Steps
public import proofs.«01_k».proof.Proof.Buffers
public import proofs.«01_k».proof.Proof.Gen.KernelIdeal.Skeleton
public import Idealize.ShloMosaic.Lib.Rounds.Family

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The order in which rows are listed does not matter. -/
local instance : Std.Commutative (α := sProp 𝕄) BIBase.sep := ⟨fun P Q => BI.equiv_iff.mp ⟨BI.sep_comm, BI.sep_comm⟩⟩
local instance : Std.Associative (α := sProp 𝕄) BIBase.sep := ⟨fun P Q R => BI.equiv_iff.mp ⟨BI.sep_assoc, BI.sep_assoc'⟩⟩

section Rules
variable {X : Dev nD → Cont F} {c : Dev nD} {K : Dev nD × Kind → ℕ}
  {α : Type} {Q : α → sProp (MT nD τ sig Unit (Elt F) ℕ UU ℕ)} {R : sProp (MT nD τ sig Unit (Elt F) ℕ UU ℕ)}

theorem run_deviceId {A : sProp 𝕄} {k : Dev nD → Prog (TpuEff nD τ sig (Elt F) Λ₀ .tc) α} (hk : A ⊢ run c (k c) Q) :
    A ⊢ run c (.op .deviceId k) Q := by
  unfold run; rw [wp_deviceId]; exact hk

/-- A signal along an axis. -/
theorem step_signal (b : Bool) (d : Fin 3) {dv : Dev nD} (hd : dv = peer d c := by revert c; decide +kernel) {sm : Sem sig} (hsm : csem (.inl b) = .reg sm := by rfl)
    {O₁ O₂ : CellTallies nD τ sig Unit} (hO : O₁ = O₂ + tallyAt (cell (peer d c) (.inl b)) () 1 := by rfl)
    {k : PUnit → Prog (TpuEff nD τ sig (Elt F) Λ₀ .tc) α}
    (hk : iprop(Env X K ∗ (∃ W, owes (c : Thread nD τ) O₂ W) ∗ R) ⊢ run c (k ⟨⟩) Q) :
    iprop(Env X K ∗ (∃ W, owes (c : Thread nD τ) O₁ W) ∗ duty (F := F) (cell (peer d c) (.inl b)) d ∗ pay X (peer d c) (.inl b) d ∗ R)
      ⊢ run c (.op (.semSignal (dv, .tc) sm (1#32 : BitVec 32).toInt) k) Q := by
  subst hd
  have hc : cell (peer d c) (.inl b) = ((peer d c : Thread nD τ), .reg sm) := by show (_, csem _) = _; rw [hsm]
  have hmem : d ∈ (hs X).duties ((peer d c : Thread nD τ), .reg sm) 0 := by rw [← hc, duties_cell]; exact Finset.mem_univ d
  have hamt : (hs X).amount ((peer d c : Thread nD τ), .reg sm) 0 d = 1 := by rw [← hc, amount_cell]; rfl
  have hinv : Env X K ⊢ cellInv ER (hs X) (K (peer d c, .inl b)) ((peer d c : Thread nD τ), .reg sm) := by
    rw [← hc]; exact Env_inv X K (peer d c) (.inl b)
  have hre : Env X K ⊢ reached ER ((peer d c : Thread nD τ), .reg sm) 0 := by rw [← hc]; exact Env_reached X K (peer d c) (.inl b)
  have hpay : pay X (peer d c) (.inl b) d ⊢ (hs X).payload ((peer d c : Thread nD τ), .reg sm) 0 d := by
    rw [← hc]; exact Entails.of_eq (payload_cell X (peer d c) (.inl b) 0 d).symm
  have hdu : duty (F := F) (cell (peer d c) (.inl b)) d ⊢ dutyTok ER ((peer d c : Thread nD τ), .reg sm) 0 d := by rw [hc]
  have hO' : O₁ = O₂ + tallyAt ((peer d c : Thread nD τ), .reg sm) () 1 := by rw [hO, hc]
  iintro ⟨#HE, ⟨%W, HO⟩, Hd, Hp, HR⟩
  iapply (Rounds.wp_signal 𝒱₀ ER (hs X) (c : Thread nD τ) none (dst := (peer d c : Thread nD τ)) (κ := K (peer d c, .inl b))
      (d := d) hmem (hamt.trans (by decide)) () O₂ hO') $$ [HO Hd Hp]
  · isplitr; · iapply hinv; iexact HE
    isplitl [HO]; · iexact HO
    isplitl [Hd]; · iapply hdu; iexact Hd
    isplitl [Hp]; · iapply hpay; iexact Hp
    iapply hre; iexact HE
  iintro HO
  iapply hk
  isplitr; · iexact HE
  isplitl [HO]; · iexists W; iexact HO
  iexact HR

/-- The wait for the three mates' signals. -/
theorem step_wait (b : Bool) {sm : Sem sig} (hsm : csem (.inl b) = .reg sm := by rfl) {O : CellTallies nD τ sig Unit}
    (hmay : (levAts L lv : sProp (MT nD τ sig Unit (Elt F) ℕ UU ℕ)) ⊢ MayWait (c : Thread nD τ) (csem (.inl b)) () O)
    {k : PUnit → Prog (TpuEff nD τ sig (Elt F) Λ₀ .tc) α}
    (hk : iprop(Env X K ∗ (∃ W, owes (c : Thread nD τ) O W) ∗ at1 (F := F) (cell c (.inl b))
      ∗ (bigSep Finset.univ fun d => pay X c (.inl b) d) ∗ R) ⊢ run c (k ⟨⟩) Q) :
    iprop(Env X K ∗ (∃ W, owes (c : Thread nD τ) O W) ∗ at0 (F := F) (cell c (.inl b)) ∗ cred (tallyAt (cell c (.inl b)) () 3) ∗ R)
      ⊢ run c (.op (.semWait sm (3#32 : BitVec 32).toInt) k) Q := by
  have hc : cell c (.inl b) = ((c : Thread nD τ), .reg sm) := by show (_, csem _) = _; rw [hsm]
  have hinv : Env X K ⊢ cellInv ER (hs X) (K (c, .inl b)) ((c : Thread nD τ), .reg sm) := by
    rw [← hc]; exact Env_inv X K c (.inl b)
  have hmay' : Env X K ⊢ MayWait (c : Thread nD τ) (.reg sm) () O := by rw [← hsm]; exact (Env_lev X K).trans hmay
  have hexp : 0 + 3 = (hs X).expect ((c : Thread nD τ), .reg sm) 0 := by rw [← hc, expect_bar]
  have hat : at0 (F := F) (cell c (.inl b)) ⊢ at0 (F := F) ((c : Thread nD τ), .reg sm) := by rw [hc]
  have hat1 : at1 (F := F) ((c : Thread nD τ), .reg sm) ⊢ at1 (F := F) (cell c (.inl b)) := by rw [hc]
  have hcr : (cred (tallyAt (cell c (.inl b)) () 3) : sProp 𝕄) ⊢ cred (tallyAt ((c : Thread nD τ), .reg sm) () 3) := by rw [hc]
  have hrest : (bigSep ((hs X).duties ((c : Thread nD τ), .reg sm) 0 \ ∅) fun d => (hs X).payload ((c : Thread nD τ), .reg sm) 0 d)
      ⊢ bigSep Finset.univ fun d => pay X c (.inl b) d := by rw [← hc]; exact Entails.of_eq (rest_bar X c b)
  iintro ⟨#HE, ⟨%W, HO⟩, Ha, Hc, HR⟩
  iapply (Rounds.wp_wait_rest_token 𝒱₀ ER (hs X) (c : Thread nD τ) none (κ := K (c, .inl b))
      (wpE_semWait_eq 𝒱₀ (c : Thread nD τ) none Set.univ) (Set.mem_univ _) () (O := O) (W := W) (R := 0) (m := 0) (T := ∅) hexp) $$ [HO Ha Hc]
  · isplitr; · iapply hinv; iexact HE
    isplitl [Hc]; · iapply hcr; iexact Hc
    isplitl [HO]; · iexact HO
    isplitr; · iapply hmay'; iexact HE
    iapply hat; iexact Ha
  iintro ⟨HO, Ha, -, Hp⟩
  iapply hk
  isplitr; · iexact HE
  isplitl [HO]; · iexists _; iexact HO
  isplitl [Ha]; · iapply hat1; iexact Ha
  isplitl [Hp]; · iapply hrest; iexact Hp
  iexact HR

end Rules

/-! ## Before and after -/

section Ends
variable (X : Dev nD → Cont F) (K : Dev nD × Kind → ℕ) (c : Dev nD)

/-- All a device owes at the start: what the steps and the exit owe, and its three entry signals. -/
def allOwed : CellTallies nD τ sig Unit :=
  O c 0 + tallyAt (barCell (peer 2 c)) () 1 + tallyAt (barCell (peer 1 c)) () 1 + tallyAt (barCell (peer 0 c)) () 1

/-- The handles of both barriers. -/
def Entry : sProp 𝕄 := iprop(at0 (F := F) (barCell c) ∗ cred (tallyAt (barCell c) () 3)
  ∗ duty (F := F) (barCell (peer 0 c)) 0 ∗ duty (F := F) (barCell (peer 1 c)) 1 ∗ duty (F := F) (barCell (peer 2 c)) 2)
def ExitRest : sProp 𝕄 := iprop(at0 (F := F) (endCell c) ∗ cred (tallyAt (endCell c) () 3)
  ∗ duty (F := F) (endCell (peer 0 c)) 0 ∗ duty (F := F) (endCell (peer 1 c)) 1 ∗ duty (F := F) (endCell (peer 2 c)) 2)

/-- The three buffers: argument, result and receive buffer. -/
def Start : sProp 𝕄 := iprop(Env X K ∗ (∃ W, owes (c : Thread nD τ) (allOwed c) W) ∗ Entry (F := F) c ∗ ExitRest (F := F) c
  ∗ (bigSep Finset.univ fun p => Cel (F := F) p c 0)
  ∗ ptX c Finset.univ fullShare (X c) ∗ anyO (F := F) c Finset.univ ∗ anyR (F := F) c Finset.univ)

def Done : sProp 𝕄 := iprop((∃ W, owes (c : Thread nD τ) 0 W) ∗ (bigSep Finset.univ fun k : Kind => semVal (cell c k) 0)
  ∗ ptX c Finset.univ fullShare (X c) ∗ ptO c Finset.univ fullShare (total X) ∗ anyR (F := F) c Finset.univ)

/-- From the state at entry, once the mates' rows have come, to the first step. -/
theorem entered : iprop(Env X K ∗ (∃ W, owes (c : Thread nD τ) (O c 0) W) ∗ at1 (F := F) (barCell c) ∗ (bigSep Finset.univ fun d => pay X c (.inl false) d)
      ∗ (bigSep Finset.univ fun p => Kept X p c) ∗ ExitRest (F := F) c ∗ bigSep Finset.univ fun p => Cel (F := F) p c 0)
    ⊢ St X c K 0 := by
  have hp : iprop((bigSep Finset.univ fun p => Cel (F := F) p c 0) ∗ (bigSep Finset.univ fun p => Kept X p c) ∗ bigSep Finset.univ fun d => barPay (F := F) c d)
      = Parts X c 0 := by
    rw [all_take, ← bigSep_sep']
    unfold Parts
    exact bigSep_congr fun p _ => by rw [steps_first]; rfl
  unfold St
  rw [← hp]
  iintro ⟨HE, HO, Ha, Hp, HK, HX, HC⟩
  isplitl [HE]; · iexact HE
  isplitl [HO]; · iexact HO
  isplitr [Ha HX]
  · isplitl [HC]; · iexact HC
    isplitl [HK]; · iexact HK
    iexact Hp
  · unfold Exit ExitRest
    isplitl [Ha] <;> iassumption

/-- Entering: three signals and a wait. -/
theorem run_part1 : Start X K c ⊢ run c
    (k0_part1 xM (Memref.isWhole_whole _) oM (Memref.isWhole_whole _) rM (Memref.isWhole_whole _)
      cc0_scratch1 cc0_scratch2 cc0_scratch3 cc0_scratch4 cc0_scoped0) (fun r => iprop(⌜r.1 = c⌝ ∗ St X c K 0)) := by
  rw [k0_part1_eq_skeleton]; unfold k0_part1_skel
  simp only [semSignalWord, semWaitWord, Prog.lift, Prog.bind_op, Prog.bind_ret, Prog.pure_eq_ret]
  have h : Start X K c ⊢ iprop(Env X K ∗ (∃ W, owes (c : Thread nD τ) (allOwed c) W)
      ∗ duty (F := F) (barCell (peer 0 c)) 0 ∗ pay X (peer 0 c) (.inl false) 0
      ∗ duty (F := F) (barCell (peer 1 c)) 1 ∗ pay X (peer 1 c) (.inl false) 1
      ∗ duty (F := F) (barCell (peer 2 c)) 2 ∗ pay X (peer 2 c) (.inl false) 2
      ∗ at0 (F := F) (barCell c) ∗ cred (tallyAt (barCell c) () 3)
      ∗ (bigSep Finset.univ fun p => Kept X p c) ∗ ExitRest (F := F) c ∗ bigSep Finset.univ fun p => Cel (F := F) p c 0) := by
    unfold Start Entry
    iintro ⟨HE, HO, ⟨Ha, Hc, H0, H1, H2⟩, HX, HC, Hb⟩
    ihave Hb := (all_give X c) $$ Hb
    icases Hb with ⟨HK, Hb⟩
    ihave Hb := (Entails.of_eq (bigSep_legs fun d => barPay (F := F) (peer d c) d)) $$ Hb
    icases Hb with ⟨B0, B1, B2⟩
    isplitl [HE]; · iexact HE
    isplitl [HO]; · iexact HO
    isplitl [H0]; · iexact H0
    isplitl [B0]; · iapply (show barPay (F := F) (peer 0 c) 0 ⊢ pay X (peer 0 c) (.inl false) 0 from .rfl); iexact B0
    isplitl [H1]; · iexact H1
    isplitl [B1]; · iapply (show barPay (F := F) (peer 1 c) 1 ⊢ pay X (peer 1 c) (.inl false) 1 from .rfl); iexact B1
    isplitl [H2]; · iexact H2
    isplitl [B2]; · iapply (show barPay (F := F) (peer 2 c) 2 ⊢ pay X (peer 2 c) (.inl false) 2 from .rfl); iexact B2
    isplitl [Ha]; · iexact Ha
    isplitl [Hc]; · iexact Hc
    isplitl [HK]; · iexact HK
    isplitl [HX]; · iexact HX
    iexact HC
  refine h.trans ?_
  clear h
  refine run_deviceId ?_
  refine step_signal false 0 (hk := ?_)
  refine step_signal false 1 (hk := ?_)
  refine step_signal false 2 (hk := ?_)
  refine step_wait false (hmay := mayWait c (n := 0) (.inl false) (by decide) (by decide +kernel)) (hk := ?_)
  exact (entered X K c).trans (run_ret_eq rfl)

theorem O_last : O c 174 = exits c := by
  unfold O
  rw [Finset.sum_eq_zero fun pe _ => ?_, add_zero]
  unfold owedAt
  rw [steps_last, if_neg (by have : ∀ e, sentAt e < 29 := by decide
                             have := this pe.2; omega)]

theorem bigSep_bool (Φ : Bool → sProp 𝕄) : bigSep Finset.univ Φ = iprop(Φ false ∗ Φ true) :=
  bigSep_univ_eq_bigSepL [false, true] (by decide) (by decide) Φ

/-- A statement about all counters: the two barriers', and each transfer's two. -/
theorem bigSep_kinds (Φ : Kind → sProp 𝕄) : bigSep Finset.univ Φ = iprop((Φ (.inl false) ∗ Φ (.inl true))
    ∗ bigSep Finset.univ fun p => bigSep Finset.univ fun e => iprop(Φ (.inr (false, p, e)) ∗ Φ (.inr (true, p, e)))) := by
  rw [bigSep_univ_sum, bigSep_bool, bigSep_univ_prod, bigSep_bool, bigSep_univ_prod, bigSep_univ_prod, ← bigSep_sep']
  congr 1
  exact bigSep_congr fun p _ => (bigSep_sep' _ _ _).symm

/-- The counters are at rest: their owner takes them back at zero. -/
theorem rest : iprop(Env X K ∗ bigSep Finset.univ fun k : Kind => at1 (F := F) (cell c k))
    ⊢ (|={Set.univ}=> bigSep Finset.univ fun k : Kind => semVal (cell c k) 0 : sProp 𝕄) := by
  refine BI.Entails.trans (bigSep_with_persistent (Ψ := fun k : Kind => iprop(cellInv ER (hs X) (K (c, k)) (cell c k) ∗ at1 (F := F) (cell c k)))
      fun k _ => BIClass.sep_mono (Env_inv X K c k) .rfl)
    (Rounds.cells_close ER (hs X) Finset.univ (fun k : Kind => cell c k) (fun k => K (c, k)) (fun _ _ => Set.mem_univ _) (fun _ _ h => h) (fun _ => 1)
      fun k _ r hr => duties_later X _ r hr)

/-- After the exit. -/
theorem left : iprop(Env X K ∗ (∃ W, owes (c : Thread nD τ) 0 W) ∗ at1 (F := F) (endCell c) ∗ (bigSep Finset.univ fun d => pay X c (.inl true) d)
      ∗ at1 (F := F) (barCell c) ∗ Parts X c 174)
    ⊢ |={Set.univ}=> Done X c := by
  have hp : Parts X c 174 ⊢ iprop((bigSep Finset.univ fun p => bigSep Finset.univ fun e => iprop(at1 (F := F) (sendCell c p e) ∗ at1 (F := F) (recvCell c p e)))
      ∗ ptX c Finset.univ fullShare (X c) ∗ ptO c Finset.univ fullShare (total X) ∗ anyR (F := F) c Finset.univ) := by
    have e : Parts X c 174 = iprop((bigSep Finset.univ fun p => bigSep Finset.univ fun e => iprop(at1 (F := F) (sendCell c p e) ∗ at1 (F := F) (recvCell c p e)))
        ∗ bigSep Finset.univ fun p => Mem X p c 58) := by
      rw [← bigSep_sep']
      unfold Parts
      refine bigSep_congr fun p _ => ?_
      rw [steps_last]
      show iprop(Cel (F := F) p c 29 ∗ Mem X p c 58) = _
      unfold Cel
      rw [bigSep_congr fun e _ => hand_last p c e]
    rw [e]
    exact BIClass.sep_mono .rfl (all_last X c)
  iintro ⟨HE, HO, Hend, -, Hbar, HP⟩
  ihave HP := hp $$ HP
  icases HP with ⟨Hc, Hm⟩
  imod (rest X K c) $$ [HE Hend Hbar Hc] with Hz
  · isplitl [HE]; · iexact HE
    iapply (Entails.of_eq (bigSep_kinds fun k => at1 (F := F) (cell c k)).symm)
    isplitr [Hc]
    · isplitl [Hbar] <;> iassumption
    · iexact Hc
  imodintro
  unfold Done
  isplitl [HO]; · iexact HO
  isplitl [Hz] <;> iassumption

end Ends

end Cert.KernelProof

end
-- ==== Proof.Halve1.lean ====
/-
# The first exchange

The first exchange of every part: half of the argument goes to the first partner, and what lands is added to the half kept.
-/
module

public import proofs.«01_k».proof.Proof.Steps
public import proofs.«01_k».proof.Proof.Gen.KernelIdeal.Skeleton
public import Idealize.ShloMosaic.Lib.Pipeline.Value

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (X : Dev nD → Cont F) (K : Dev nD × Kind → ℕ) (c : Dev nD)

theorem run_part2 (v3 v4 v8 v10 v23 c0_i32_22 : BitVec 32) : St X c K 0 ⊢ run c
    (k0_part2 xM (Memref.isWhole_whole _) oM (Memref.isWhole_whole _) rM (Memref.isWhole_whole _)
      cc0_scratch1 cc0_scratch2 cc0_scratch3 cc0_scratch4 cc0_scoped0 c v3 v4 v8 v10 v23 c0_i32_22) (fun _ => St X c K 3) := by
  rw [k0_part2_eq_skeleton]; unfold k0_part2_skel
  simp only [Prog.lift, Prog.bind_op, Prog.bind_ret, Prog.pure_eq_ret]
  refine step_send_arg (p := 0) (hk := ?_)
  refine step_send_arg (p := 1) (hk := ?_)
  refine step_send_arg (p := 2) (hk := ?_)
  exact run_ret .rfl

theorem run_part3 (v4 v5 v10 v12 c1_i32_48 : BitVec 32) : St X c K 3 ⊢ run c
    (k0_part3 xM (Memref.isWhole_whole _) oM (Memref.isWhole_whole _) rM (Memref.isWhole_whole _)
      cc0_scratch1 cc0_scratch2 cc0_scratch3 cc0_scratch4 cc0_scoped0 c v4 v5 v10 v12 c1_i32_48) (fun _ => St X c K 5) := by
  rw [k0_part3_eq_skeleton]; unfold k0_part3_skel
  simp only [Prog.lift, Prog.bind_op, Prog.bind_ret, Prog.pure_eq_ret]
  refine step_send_arg (p := 3) (hk := ?_)
  refine step_send_arg (p := 4) (hk := ?_)
  exact run_ret .rfl

theorem run_part4 (v3 v8 v10 v78 c0_i32_75 : BitVec 32) : St X c K 5 ⊢ run c
    (k0_part4 xM (Memref.isWhole_whole _) oM (Memref.isWhole_whole _) rM (Memref.isWhole_whole _)
      cc0_scratch1 cc0_scratch2 cc0_scratch3 cc0_scratch4 cc0_scoped0 c v3 v8 v10 v78 c0_i32_75) (fun r => iprop(⌜r.2.2 = win (k0_off4 c 0#32) S176x1024.size (k0_off4_inb c 0) (stNew X 0 c 0)⌝ ∗ St X c K 8)) := by
  rw [k0_part4_eq_skeleton]; unfold k0_part4_skel
  simp only [Prog.lift, Prog.bind_op, Prog.bind_ret, Prog.pure_eq_ret]
  refine step_send_arg (p := 5) (hk := ?_)
  refine step_gone (p := 0) 0 (hk := ?_)
  refine step_got (p := 0) 0 (hk := ?_)
  refine step_load_arg (p := 0) 0 (hk := ?_)
  refine step_load_com (p := 0) 0 (hk := ?_)
  exact run_ret_eq (by simp only [k0_pay1, shapeCast_self]; exact win_sum 0)

theorem run_part5 (v4 v10 v97 v99 : BitVec 32) : St X c K 8 ⊢ run c
    (k0_part5 xM (Memref.isWhole_whole _) oM (Memref.isWhole_whole _) rM (Memref.isWhole_whole _)
      cc0_scratch1 cc0_scratch2 cc0_scratch3 cc0_scratch4 cc0_scoped0 c v4 v10 v97 v99 (win (k0_off4 c 0#32) S176x1024.size (k0_off4_inb c 0) (stNew X 0 c 0))) (fun _ => St X c K 12) := by
  rw [k0_part5_eq_skeleton]; unfold k0_part5_skel
  simp only [Prog.lift, Prog.bind_op, Prog.bind_ret, Prog.pure_eq_ret]
  refine step_load_any (p := 0) 0 (hk := fun _ => ?_)
  refine step_store (p := 0) 0 (hw := rfl) (hk := ?_)
  refine step_send_sum (p := 0) 1 (hk := ?_)
  refine step_add_arg (p := 0) 1 (hw := fun _ _ => by simp only [k0_pay2, shapeCast_self]) (hk := ?_)
  refine step_gone (p := 2) 0 (hk := ?_)
  exact run_ret .rfl

theorem run_part6 (v4 v5 v10 v12 : BitVec 32) : St X c K 12 ⊢ run c
    (k0_part6 xM (Memref.isWhole_whole _) oM (Memref.isWhole_whole _) rM (Memref.isWhole_whole _)
      cc0_scratch1 cc0_scratch2 cc0_scratch3 cc0_scratch4 cc0_scoped0 c v4 v5 v10 v12) (fun _ => St X c K 15) := by
  rw [k0_part6_eq_skeleton]; unfold k0_part6_skel
  simp only [Prog.lift, Prog.bind_op, Prog.bind_ret, Prog.pure_eq_ret]
  refine step_got (p := 2) 0 (hk := ?_)
  refine step_add_arg (p := 2) 0 (hw := fun _ _ => by simp only [k0_pay3, shapeCast_self]) (hk := ?_)
  refine step_send_sum (p := 2) 1 (hk := ?_)
  exact run_ret .rfl

theorem run_part7 (v5 v8 v12 v143 v167 : BitVec 32) : St X c K 15 ⊢ run c
    (k0_part7 xM (Memref.isWhole_whole _) oM (Memref.isWhole_whole _) rM (Memref.isWhole_whole _)
      cc0_scratch1 cc0_scratch2 cc0_scratch3 cc0_scratch4 cc0_scoped0 c v5 v8 v12 v143 v167) (fun r => iprop(⌜r.2.2.2 = win (k0_off12 c) S176x1024.size (k0_off12_inb c) (X c)⌝ ∗ St X c K 18)) := by
  rw [k0_part7_eq_skeleton]; unfold k0_part7_skel
  simp only [Prog.lift, Prog.bind_op, Prog.bind_ret, Prog.pure_eq_ret]
  refine step_add_arg (p := 2) 1 (hw := fun _ _ => by simp only [k0_pay4, shapeCast_self]) (hk := ?_)
  refine step_gone (p := 4) 0 (hk := ?_)
  refine step_got (p := 4) 0 (hk := ?_)
  refine step_load_arg (p := 4) 0 (hk := ?_)
  exact run_ret_eq (by simp only [k0_pay5, shapeCast_self])

theorem run_part8 (v3 v8 v189 v191 v192 : BitVec 32) : St X c K 18 ⊢ run c
    (k0_part8 xM (Memref.isWhole_whole _) oM (Memref.isWhole_whole _) rM (Memref.isWhole_whole _)
      cc0_scratch1 cc0_scratch2 cc0_scratch3 cc0_scratch4 cc0_scoped0 c v3 v8 v189 v191 v192 (win (k0_off12 c) S176x1024.size (k0_off12_inb c) (X c))) (fun _ => St X c K 22) := by
  rw [k0_part8_eq_skeleton]; unfold k0_part8_skel
  simp only [Prog.lift, Prog.bind_op, Prog.bind_ret, Prog.pure_eq_ret]
  refine step_load_com (p := 4) 0 (hk := ?_)
  refine step_load_any (p := 4) 0 (hk := fun _ => ?_)
  refine step_store (p := 4) 0 (hw := by simp only [k0_pay6, shapeCast_self]; exact win_sum 0) (hk := ?_)
  refine step_send_sum (p := 4) 1 (hk := ?_)
  refine step_add_arg (p := 4) 1 (hw := fun _ _ => by simp only [k0_pay7, shapeCast_self]) (hk := ?_)
  refine step_gone (p := 1) 0 (hk := ?_)
  exact run_ret .rfl

theorem run_part9 (v3 v4 v8 v10 : BitVec 32) : St X c K 22 ⊢ run c
    (k0_part9 xM (Memref.isWhole_whole _) oM (Memref.isWhole_whole _) rM (Memref.isWhole_whole _)
      cc0_scratch1 cc0_scratch2 cc0_scratch3 cc0_scratch4 cc0_scoped0 c v3 v4 v8 v10) (fun _ => St X c K 24) := by
  rw [k0_part9_eq_skeleton]; unfold k0_part9_skel
  simp only [Prog.lift, Prog.bind_op, Prog.bind_ret, Prog.pure_eq_ret]
  refine step_got (p := 1) 0 (hk := ?_)
  refine step_add_arg (p := 1) 0 (hw := fun _ _ => by simp only [k0_pay8, shapeCast_self]) (hk := ?_)
  exact run_ret .rfl

theorem run_part10 (v4 v10 v12 v235 v237 : BitVec 32) : St X c K 24 ⊢ run c
    (k0_part10 xM (Memref.isWhole_whole _) oM (Memref.isWhole_whole _) rM (Memref.isWhole_whole _)
      cc0_scratch1 cc0_scratch2 cc0_scratch3 cc0_scratch4 cc0_scoped0 c v4 v10 v12 v235 v237) (fun r => iprop(⌜r.2.2.2 = win (k0_off17 c) S160x1024.size (k0_off17_inb c) (X c)⌝ ∗ St X c K 28)) := by
  rw [k0_part10_eq_skeleton]; unfold k0_part10_skel
  simp only [Prog.lift, Prog.bind_op, Prog.bind_ret, Prog.pure_eq_ret]
  refine step_send_sum (p := 1) 1 (hk := ?_)
  refine step_add_arg (p := 1) 1 (hw := fun _ _ => by simp only [k0_pay9, shapeCast_self]) (hk := ?_)
  refine step_gone (p := 3) 0 (hk := ?_)
  refine step_got (p := 3) 0 (hk := ?_)
  refine step_load_arg (p := 3) 0 (hk := ?_)
  exact run_ret_eq (rfl)

theorem run_part11 (v5 v12 v281 v283 v284 : BitVec 32) : St X c K 28 ⊢ run c
    (k0_part11 xM (Memref.isWhole_whole _) oM (Memref.isWhole_whole _) rM (Memref.isWhole_whole _)
      cc0_scratch1 cc0_scratch2 cc0_scratch3 cc0_scratch4 cc0_scoped0 c v5 v12 v281 v283 v284 (win (k0_off17 c) S160x1024.size (k0_off17_inb c) (X c))) (fun _ => St X c K 31) := by
  rw [k0_part11_eq_skeleton]; unfold k0_part11_skel
  simp only [Prog.lift, Prog.bind_op, Prog.bind_ret, Prog.pure_eq_ret]
  refine step_load_com (p := 3) 0 (hk := ?_)
  refine step_load_any (p := 3) 0 (hk := fun _ => ?_)
  refine step_store (p := 3) 0 (hw := by simp only [k0_pay10, shapeCast_self]; exact win_sum 0) (hk := ?_)
  refine step_send_sum (p := 3) 1 (hk := ?_)
  refine step_add_arg (p := 3) 1 (hw := fun _ _ => by simp only [k0_pay11, shapeCast_self]) (hk := ?_)
  exact run_ret .rfl

theorem run_part12 (v3 v5 v8 v12 : BitVec 32) : St X c K 31 ⊢ run c
    (k0_part12 xM (Memref.isWhole_whole _) oM (Memref.isWhole_whole _) rM (Memref.isWhole_whole _)
      cc0_scratch1 cc0_scratch2 cc0_scratch3 cc0_scratch4 cc0_scoped0 c v3 v5 v8 v12) (fun _ => St X c K 34) := by
  rw [k0_part12_eq_skeleton]; unfold k0_part12_skel
  simp only [Prog.lift, Prog.bind_op, Prog.bind_ret, Prog.pure_eq_ret]
  refine step_gone (p := 5) 0 (hk := ?_)
  refine step_got (p := 5) 0 (hk := ?_)
  refine step_add_arg (p := 5) 0 (hw := fun _ _ => by simp only [k0_pay12, shapeCast_self]) (hk := ?_)
  exact run_ret .rfl

theorem run_part13 (v4 v10 v12 v97 v327 v329 : BitVec 32) : St X c K 34 ⊢ run c
    (k0_part13 xM (Memref.isWhole_whole _) oM (Memref.isWhole_whole _) rM (Memref.isWhole_whole _)
      cc0_scratch1 cc0_scratch2 cc0_scratch3 cc0_scratch4 cc0_scoped0 c v4 v10 v12 v97 v327 v329) (fun _ => St X c K 38) := by
  rw [k0_part13_eq_skeleton]; unfold k0_part13_skel
  simp only [Prog.lift, Prog.bind_op, Prog.bind_ret, Prog.pure_eq_ret]
  refine step_send_sum (p := 5) 1 (hk := ?_)
  refine step_add_arg (p := 5) 1 (hw := fun _ _ => by simp only [k0_pay13, shapeCast_self]) (hk := ?_)
  refine step_gone (p := 0) 1 (hk := ?_)
  refine step_got (p := 0) 1 (hk := ?_)
  exact run_ret .rfl

end Body

end Cert.KernelProof

end
-- ==== Proof.Halve2.lean ====
/-
# The second and the third exchange

The partial sums are halved twice more, so that each device ends with the sum over all devices of an eighth of each part.
-/
module

public import proofs.«01_k».proof.Proof.Steps
public import proofs.«01_k».proof.Proof.Gen.KernelIdeal.Skeleton
public import Idealize.ShloMosaic.Lib.Pipeline.Value

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (X : Dev nD → Cont F) (K : Dev nD × Kind → ℕ) (c : Dev nD)

theorem run_part14 (v5 v12 v373 v375 v376 : BitVec 32) : St X c K 38 ⊢ run c
    (k0_part14 xM (Memref.isWhole_whole _) oM (Memref.isWhole_whole _) rM (Memref.isWhole_whole _)
      cc0_scratch1 cc0_scratch2 cc0_scratch3 cc0_scratch4 cc0_scoped0 c v5 v12 v373 v375 v376) (fun _ => St X c K 41) := by
  rw [k0_part14_eq_skeleton]; unfold k0_part14_skel
  simp only [Prog.lift, Prog.bind_op, Prog.bind_ret, Prog.pure_eq_ret]
  refine step_add_sum (p := 0) 2 (hw := fun _ _ => by simp only [k0_pay14, shapeCast_self]) (hk := ?_)
  refine step_send_sum (p := 0) 2 (hk := ?_)
  refine step_add_sum (p := 0) 3 (hw := fun _ _ => by simp only [k0_pay15, shapeCast_self]) (hk := ?_)
  exact run_ret .rfl

theorem run_part15 (v3 v5 v8 v12 v143 : BitVec 32) : St X c K 41 ⊢ run c
    (k0_part15 xM (Memref.isWhole_whole _) oM (Memref.isWhole_whole _) rM (Memref.isWhole_whole _)
      cc0_scratch1 cc0_scratch2 cc0_scratch3 cc0_scratch4 cc0_scoped0 c v3 v5 v8 v12 v143) (fun _ => St X c K 44) := by
  rw [k0_part15_eq_skeleton]; unfold k0_part15_skel
  simp only [Prog.lift, Prog.bind_op, Prog.bind_ret, Prog.pure_eq_ret]
  refine step_gone (p := 2) 1 (hk := ?_)
  refine step_got (p := 2) 1 (hk := ?_)
  refine step_add_sum (p := 2) 2 (hw := fun _ _ => by simp only [k0_pay16, shapeCast_self]) (hk := ?_)
  exact run_ret .rfl

theorem run_part16 (v3 v8 v10 v189 v419 v421 : BitVec 32) : St X c K 44 ⊢ run c
    (k0_part16 xM (Memref.isWhole_whole _) oM (Memref.isWhole_whole _) rM (Memref.isWhole_whole _)
      cc0_scratch1 cc0_scratch2 cc0_scratch3 cc0_scratch4 cc0_scoped0 c v3 v8 v10 v189 v419 v421) (fun _ => St X c K 48) := by
  rw [k0_part16_eq_skeleton]; unfold k0_part16_skel
  simp only [Prog.lift, Prog.bind_op, Prog.bind_ret, Prog.pure_eq_ret]
  refine step_send_sum (p := 2) 2 (hk := ?_)
  refine step_add_sum (p := 2) 3 (hw := fun _ _ => by simp only [k0_pay17, shapeCast_self]) (hk := ?_)
  refine step_gone (p := 4) 1 (hk := ?_)
  refine step_got (p := 4) 1 (hk := ?_)
  exact run_ret .rfl

theorem run_part17 (v4 v10 v465 v466 c88_i32_413 : BitVec 32) : St X c K 48 ⊢ run c
    (k0_part17 xM (Memref.isWhole_whole _) oM (Memref.isWhole_whole _) rM (Memref.isWhole_whole _)
      cc0_scratch1 cc0_scratch2 cc0_scratch3 cc0_scratch4 cc0_scoped0 c v4 v10 v465 v466 c88_i32_413) (fun _ => St X c K 51) := by
  rw [k0_part17_eq_skeleton]; unfold k0_part17_skel
  simp only [Prog.lift, Prog.bind_op, Prog.bind_ret, Prog.pure_eq_ret]
  refine step_add_sum (p := 4) 2 (hw := fun _ _ => by simp only [k0_pay18, shapeCast_self]) (hk := ?_)
  refine step_send_sum (p := 4) 2 (hk := ?_)
  refine step_add_sum (p := 4) 3 (hw := fun _ _ => by simp only [k0_pay19, shapeCast_self]) (hk := ?_)
  exact run_ret .rfl

theorem run_part18 (v4 v5 v10 v12 v235 : BitVec 32) : St X c K 51 ⊢ run c
    (k0_part18 xM (Memref.isWhole_whole _) oM (Memref.isWhole_whole _) rM (Memref.isWhole_whole _)
      cc0_scratch1 cc0_scratch2 cc0_scratch3 cc0_scratch4 cc0_scoped0 c v4 v5 v10 v12 v235) (fun _ => St X c K 54) := by
  rw [k0_part18_eq_skeleton]; unfold k0_part18_skel
  simp only [Prog.lift, Prog.bind_op, Prog.bind_ret, Prog.pure_eq_ret]
  refine step_gone (p := 1) 1 (hk := ?_)
  refine step_got (p := 1) 1 (hk := ?_)
  refine step_add_sum (p := 1) 2 (hw := fun _ _ => by simp only [k0_pay20, shapeCast_self]) (hk := ?_)
  exact run_ret .rfl

theorem run_part19 (v5 v12 v281 v511 v513 : BitVec 32) : St X c K 54 ⊢ run c
    (k0_part19 xM (Memref.isWhole_whole _) oM (Memref.isWhole_whole _) rM (Memref.isWhole_whole _)
      cc0_scratch1 cc0_scratch2 cc0_scratch3 cc0_scratch4 cc0_scoped0 c v5 v12 v281 v511 v513) (fun _ => St X c K 58) := by
  rw [k0_part19_eq_skeleton]; unfold k0_part19_skel
  simp only [Prog.lift, Prog.bind_op, Prog.bind_ret, Prog.pure_eq_ret]
  refine step_send_sum (p := 1) 2 (hk := ?_)
  refine step_add_sum (p := 1) 3 (hw := fun _ _ => by simp only [k0_pay21, shapeCast_self]) (hk := ?_)
  refine step_gone (p := 3) 1 (hk := ?_)
  refine step_got (p := 3) 1 (hk := ?_)
  exact run_ret .rfl

theorem run_part20 (v3 v8 v557 c1_i32_490 : BitVec 32) : St X c K 58 ⊢ run c
    (k0_part20 xM (Memref.isWhole_whole _) oM (Memref.isWhole_whole _) rM (Memref.isWhole_whole _)
      cc0_scratch1 cc0_scratch2 cc0_scratch3 cc0_scratch4 cc0_scoped0 c v3 v8 v557 c1_i32_490) (fun _ => St X c K 61) := by
  rw [k0_part20_eq_skeleton]; unfold k0_part20_skel
  simp only [Prog.lift, Prog.bind_op, Prog.bind_ret, Prog.pure_eq_ret]
  refine step_add_sum (p := 3) 2 (hw := fun _ _ => by simp only [k0_pay22, shapeCast_self]) (hk := ?_)
  refine step_send_sum (p := 3) 2 (hk := ?_)
  refine step_add_sum (p := 3) 3 (hw := fun _ _ => by simp only [k0_pay23, shapeCast_self]) (hk := ?_)
  exact run_ret .rfl

theorem run_part21 (v3 v4 v8 v10 v327 : BitVec 32) : St X c K 61 ⊢ run c
    (k0_part21 xM (Memref.isWhole_whole _) oM (Memref.isWhole_whole _) rM (Memref.isWhole_whole _)
      cc0_scratch1 cc0_scratch2 cc0_scratch3 cc0_scratch4 cc0_scoped0 c v3 v4 v8 v10 v327) (fun _ => St X c K 64) := by
  rw [k0_part21_eq_skeleton]; unfold k0_part21_skel
  simp only [Prog.lift, Prog.bind_op, Prog.bind_ret, Prog.pure_eq_ret]
  refine step_gone (p := 5) 1 (hk := ?_)
  refine step_got (p := 5) 1 (hk := ?_)
  refine step_add_sum (p := 5) 2 (hw := fun _ _ => by simp only [k0_pay24, shapeCast_self]) (hk := ?_)
  exact run_ret .rfl

theorem run_part22 (v5 v12 v603 v605 v619 : BitVec 32) : St X c K 64 ⊢ run c
    (k0_part22 xM (Memref.isWhole_whole _) oM (Memref.isWhole_whole _) rM (Memref.isWhole_whole _)
      cc0_scratch1 cc0_scratch2 cc0_scratch3 cc0_scratch4 cc0_scoped0 c v5 v12 v603 v605 v619) (fun _ => St X c K 68) := by
  rw [k0_part22_eq_skeleton]; unfold k0_part22_skel
  simp only [Prog.lift, Prog.bind_op, Prog.bind_ret, Prog.pure_eq_ret]
  refine step_send_sum (p := 5) 2 (hk := ?_)
  refine step_add_sum (p := 5) 3 (hw := fun _ _ => by simp only [k0_pay25, shapeCast_self]) (hk := ?_)
  refine step_gone (p := 0) 2 (hk := ?_)
  refine step_got (p := 0) 2 (hk := ?_)
  exact run_ret .rfl

theorem run_part23 (v4 v5 v373 v648 : BitVec 32) : St X c K 68 ⊢ run c
    (k0_part23 xM (Memref.isWhole_whole _) oM (Memref.isWhole_whole _) rM (Memref.isWhole_whole _)
      cc0_scratch1 cc0_scratch2 cc0_scratch3 cc0_scratch4 cc0_scoped0 c v4 v5 v373 v648) (fun _ => St X c K 72) := by
  rw [k0_part23_eq_skeleton]; unfold k0_part23_skel
  simp only [Prog.lift, Prog.bind_op, Prog.bind_ret, Prog.pure_eq_ret]
  refine step_add_sum (p := 0) 4 (hw := fun _ _ => by simp only [k0_pay26, shapeCast_self]) (hk := ?_)
  refine step_send_done (p := 0) 3 (hk := ?_)
  refine step_send_done (p := 0) 4 (hk := ?_)
  refine step_gone (p := 2) 2 (hk := ?_)
  exact run_ret .rfl

theorem run_part24 (v3 v5 v8 v419 : BitVec 32) : St X c K 72 ⊢ run c
    (k0_part24 xM (Memref.isWhole_whole _) oM (Memref.isWhole_whole _) rM (Memref.isWhole_whole _)
      cc0_scratch1 cc0_scratch2 cc0_scratch3 cc0_scratch4 cc0_scoped0 c v3 v5 v8 v419) (fun _ => St X c K 75) := by
  rw [k0_part24_eq_skeleton]; unfold k0_part24_skel
  simp only [Prog.lift, Prog.bind_op, Prog.bind_ret, Prog.pure_eq_ret]
  refine step_got (p := 2) 2 (hk := ?_)
  refine step_add_sum (p := 2) 4 (hw := fun _ _ => by simp only [k0_pay27, shapeCast_self]) (hk := ?_)
  refine step_send_done (p := 2) 3 (hk := ?_)
  exact run_ret .rfl

theorem run_part25 (v4 v10 v465 : BitVec 32) : St X c K 75 ⊢ run c
    (k0_part25 xM (Memref.isWhole_whole _) oM (Memref.isWhole_whole _) rM (Memref.isWhole_whole _)
      cc0_scratch1 cc0_scratch2 cc0_scratch3 cc0_scratch4 cc0_scoped0 c v4 v10 v465) (fun _ => St X c K 79) := by
  rw [k0_part25_eq_skeleton]; unfold k0_part25_skel
  simp only [Prog.lift, Prog.bind_op, Prog.bind_ret, Prog.pure_eq_ret]
  refine step_send_done (p := 2) 4 (hk := ?_)
  refine step_gone (p := 4) 2 (hk := ?_)
  refine step_got (p := 4) 2 (hk := ?_)
  refine step_add_sum (p := 4) 4 (hw := fun _ _ => by simp only [k0_pay28, shapeCast_self]) (hk := ?_)
  exact run_ret .rfl

theorem run_part26 (v3 v5 v12 v511 : BitVec 32) : St X c K 79 ⊢ run c
    (k0_part26 xM (Memref.isWhole_whole _) oM (Memref.isWhole_whole _) rM (Memref.isWhole_whole _)
      cc0_scratch1 cc0_scratch2 cc0_scratch3 cc0_scratch4 cc0_scoped0 c v3 v5 v12 v511) (fun r => iprop(⌜r.2 = win (k0_off50 c 704#32) S88x1024.size (k0_off50_inb c 1) (carried X 1 2 c)⌝ ∗ St X c K 83)) := by
  rw [k0_part26_eq_skeleton]; unfold k0_part26_skel
  simp only [Prog.lift, Prog.bind_op, Prog.bind_ret, Prog.pure_eq_ret]
  refine step_send_done (p := 4) 3 (hk := ?_)
  refine step_send_done (p := 4) 4 (hk := ?_)
  refine step_gone (p := 1) 2 (hk := ?_)
  refine step_got (p := 1) 2 (hk := ?_)
  refine step_load_sum (p := 1) 4 (hk := ?_)
  exact run_ret_eq (by simp only [k0_pay29, shapeCast_self]; rfl)

theorem run_part27 (v3 v4 v5 v754 : BitVec 32) : St X c K 83 ⊢ run c
    (k0_part27 xM (Memref.isWhole_whole _) oM (Memref.isWhole_whole _) rM (Memref.isWhole_whole _)
      cc0_scratch1 cc0_scratch2 cc0_scratch3 cc0_scratch4 cc0_scoped0 c v3 v4 v5 v754 (win (k0_off50 c 704#32) S88x1024.size (k0_off50_inb c 1) (carried X 1 2 c))) (fun _ => St X c K 87) := by
  rw [k0_part27_eq_skeleton]; unfold k0_part27_skel
  simp only [Prog.lift, Prog.bind_op, Prog.bind_ret, Prog.pure_eq_ret]
  refine step_load_com (p := 1) 4 (hk := ?_)
  refine step_load_any (p := 1) 4 (hk := fun _ => ?_)
  refine step_store (p := 1) 4 (hw := by simp only [k0_pay30, shapeCast_self]; exact win_sum 4) (hk := ?_)
  refine step_send_done (p := 1) 3 (hk := ?_)
  refine step_send_done (p := 1) 4 (hk := ?_)
  refine step_gone (p := 3) 2 (hk := ?_)
  exact run_ret .rfl

theorem run_part28 (v3 v5 v8 v557 v782 : BitVec 32) : St X c K 87 ⊢ run c
    (k0_part28 xM (Memref.isWhole_whole _) oM (Memref.isWhole_whole _) rM (Memref.isWhole_whole _)
      cc0_scratch1 cc0_scratch2 cc0_scratch3 cc0_scratch4 cc0_scoped0 c v3 v5 v8 v557 v782) (fun _ => St X c K 91) := by
  rw [k0_part28_eq_skeleton]; unfold k0_part28_skel
  simp only [Prog.lift, Prog.bind_op, Prog.bind_ret, Prog.pure_eq_ret]
  refine step_got (p := 3) 2 (hk := ?_)
  refine step_add_sum (p := 3) 4 (hw := fun _ _ => by simp only [k0_pay31, shapeCast_self]) (hk := ?_)
  refine step_send_done (p := 3) 3 (hk := ?_)
  refine step_send_done (p := 3) 4 (hk := ?_)
  exact run_ret .rfl

theorem run_part29 (v4 v10 v603 : BitVec 32) : St X c K 91 ⊢ run c
    (k0_part29 xM (Memref.isWhole_whole _) oM (Memref.isWhole_whole _) rM (Memref.isWhole_whole _)
      cc0_scratch1 cc0_scratch2 cc0_scratch3 cc0_scratch4 cc0_scoped0 c v4 v10 v603) (fun _ => St X c K 95) := by
  rw [k0_part29_eq_skeleton]; unfold k0_part29_skel
  simp only [Prog.lift, Prog.bind_op, Prog.bind_ret, Prog.pure_eq_ret]
  refine step_gone (p := 5) 2 (hk := ?_)
  refine step_got (p := 5) 2 (hk := ?_)
  refine step_add_sum (p := 5) 4 (hw := fun _ _ => by simp only [k0_pay32, shapeCast_self]) (hk := ?_)
  refine step_send_done (p := 5) 3 (hk := ?_)
  exact run_ret .rfl

end Body

end Cert.KernelProof

end
-- ==== Proof.Spread1.lean ====
/-
# Passing the sums on

The finished rows go back over the three axes: each device passes on what it holds until every device holds everything.
-/
module

public import proofs.«01_k».proof.Proof.Steps
public import proofs.«01_k».proof.Proof.Gen.KernelIdeal.Skeleton
public import Idealize.ShloMosaic.Lib.Pipeline.Value

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (X : Dev nD → Cont F) (K : Dev nD × Kind → ℕ) (c : Dev nD)

theorem run_part30 (v3 v4 v5 v12 v649 : BitVec 32) : St X c K 95 ⊢ run c
    (k0_part30 xM (Memref.isWhole_whole _) oM (Memref.isWhole_whole _) rM (Memref.isWhole_whole _)
      cc0_scratch1 cc0_scratch2 cc0_scratch3 cc0_scratch4 cc0_scoped0 c v3 v4 v5 v12 v649) (fun _ => St X c K 98) := by
  rw [k0_part30_eq_skeleton]; unfold k0_part30_skel
  simp only [Prog.lift, Prog.bind_op, Prog.bind_ret, Prog.pure_eq_ret]
  refine step_send_done (p := 5) 4 (hk := ?_)
  refine step_gone (p := 0) 3 (hk := ?_)
  refine step_got (p := 0) 3 (hk := ?_)
  exact run_ret .rfl

theorem run_part31 (v3 v8 v864 : BitVec 32) : St X c K 98 ⊢ run c
    (k0_part31 xM (Memref.isWhole_whole _) oM (Memref.isWhole_whole _) rM (Memref.isWhole_whole _)
      cc0_scratch1 cc0_scratch2 cc0_scratch3 cc0_scratch4 cc0_scoped0 c v3 v8 v864) (fun _ => St X c K 102) := by
  rw [k0_part31_eq_skeleton]; unfold k0_part31_skel
  simp only [Prog.lift, Prog.bind_op, Prog.bind_ret, Prog.pure_eq_ret]
  refine step_send_done (p := 0) 5 (hk := ?_)
  refine step_send_done (p := 0) 6 (hk := ?_)
  refine step_gone (p := 2) 3 (hk := ?_)
  refine step_got (p := 2) 3 (hk := ?_)
  exact run_ret .rfl

theorem run_part32 (v4 v5 v8 v684 v891 c88_i32_823 : BitVec 32) : St X c K 102 ⊢ run c
    (k0_part32 xM (Memref.isWhole_whole _) oM (Memref.isWhole_whole _) rM (Memref.isWhole_whole _)
      cc0_scratch1 cc0_scratch2 cc0_scratch3 cc0_scratch4 cc0_scoped0 c v4 v5 v8 v684 v891 c88_i32_823) (fun _ => St X c K 105) := by
  rw [k0_part32_eq_skeleton]; unfold k0_part32_skel
  simp only [Prog.lift, Prog.bind_op, Prog.bind_ret, Prog.pure_eq_ret]
  refine step_send_done (p := 2) 5 (hk := ?_)
  refine step_send_done (p := 2) 6 (hk := ?_)
  refine step_gone (p := 4) 3 (hk := ?_)
  exact run_ret .rfl

theorem run_part33 (v3 v5 v10 v719 : BitVec 32) : St X c K 105 ⊢ run c
    (k0_part33 xM (Memref.isWhole_whole _) oM (Memref.isWhole_whole _) rM (Memref.isWhole_whole _)
      cc0_scratch1 cc0_scratch2 cc0_scratch3 cc0_scratch4 cc0_scoped0 c v3 v5 v10 v719) (fun _ => St X c K 108) := by
  rw [k0_part33_eq_skeleton]; unfold k0_part33_skel
  simp only [Prog.lift, Prog.bind_op, Prog.bind_ret, Prog.pure_eq_ret]
  refine step_got (p := 4) 3 (hk := ?_)
  refine step_send_done (p := 4) 5 (hk := ?_)
  refine step_send_done (p := 4) 6 (hk := ?_)
  exact run_ret .rfl

theorem run_part34 (v3 v4 v5 v12 v754 : BitVec 32) : St X c K 108 ⊢ run c
    (k0_part34 xM (Memref.isWhole_whole _) oM (Memref.isWhole_whole _) rM (Memref.isWhole_whole _)
      cc0_scratch1 cc0_scratch2 cc0_scratch3 cc0_scratch4 cc0_scoped0 c v3 v4 v5 v12 v754) (fun _ => St X c K 111) := by
  rw [k0_part34_eq_skeleton]; unfold k0_part34_skel
  simp only [Prog.lift, Prog.bind_op, Prog.bind_ret, Prog.pure_eq_ret]
  refine step_gone (p := 1) 3 (hk := ?_)
  refine step_got (p := 1) 3 (hk := ?_)
  refine step_send_done (p := 1) 5 (hk := ?_)
  exact run_ret .rfl

theorem run_part35 (v3 v5 v8 v789 : BitVec 32) : St X c K 111 ⊢ run c
    (k0_part35 xM (Memref.isWhole_whole _) oM (Memref.isWhole_whole _) rM (Memref.isWhole_whole _)
      cc0_scratch1 cc0_scratch2 cc0_scratch3 cc0_scratch4 cc0_scoped0 c v3 v5 v8 v789) (fun _ => St X c K 115) := by
  rw [k0_part35_eq_skeleton]; unfold k0_part35_skel
  simp only [Prog.lift, Prog.bind_op, Prog.bind_ret, Prog.pure_eq_ret]
  refine step_send_done (p := 1) 6 (hk := ?_)
  refine step_gone (p := 3) 3 (hk := ?_)
  refine step_got (p := 3) 3 (hk := ?_)
  refine step_send_done (p := 3) 5 (hk := ?_)
  exact run_ret .rfl

theorem run_part36 (v3 v4 v10 v824 c1_i32_942 : BitVec 32) : St X c K 115 ⊢ run c
    (k0_part36 xM (Memref.isWhole_whole _) oM (Memref.isWhole_whole _) rM (Memref.isWhole_whole _)
      cc0_scratch1 cc0_scratch2 cc0_scratch3 cc0_scratch4 cc0_scoped0 c v3 v4 v10 v824 c1_i32_942) (fun _ => St X c K 118) := by
  rw [k0_part36_eq_skeleton]; unfold k0_part36_skel
  simp only [Prog.lift, Prog.bind_op, Prog.bind_ret, Prog.pure_eq_ret]
  refine step_send_done (p := 3) 6 (hk := ?_)
  refine step_gone (p := 5) 3 (hk := ?_)
  refine step_got (p := 5) 3 (hk := ?_)
  exact run_ret .rfl

theorem run_part37 (v4 v5 : BitVec 32) : St X c K 118 ⊢ run c
    (k0_part37 xM (Memref.isWhole_whole _) oM (Memref.isWhole_whole _) rM (Memref.isWhole_whole _)
      cc0_scratch1 cc0_scratch2 cc0_scratch3 cc0_scratch4 cc0_scoped0 c v4 v5) (fun _ => St X c K 122) := by
  rw [k0_part37_eq_skeleton]; unfold k0_part37_skel
  simp only [Prog.lift, Prog.bind_op, Prog.bind_ret, Prog.pure_eq_ret]
  refine step_send_done (p := 5) 5 (hk := ?_)
  refine step_send_done (p := 5) 6 (hk := ?_)
  refine step_gone (p := 0) 4 (hk := ?_)
  refine step_got (p := 0) 4 (hk := ?_)
  exact run_ret .rfl

theorem run_part38 (v3 v4 v10 v863 : BitVec 32) : St X c K 122 ⊢ run c
    (k0_part38 xM (Memref.isWhole_whole _) oM (Memref.isWhole_whole _) rM (Memref.isWhole_whole _)
      cc0_scratch1 cc0_scratch2 cc0_scratch3 cc0_scratch4 cc0_scoped0 c v3 v4 v10 v863) (fun _ => St X c K 126) := by
  rw [k0_part38_eq_skeleton]; unfold k0_part38_skel
  simp only [Prog.lift, Prog.bind_op, Prog.bind_ret, Prog.pure_eq_ret]
  refine step_gone (p := 0) 5 (hk := ?_)
  refine step_got (p := 0) 5 (hk := ?_)
  refine step_send_done (p := 0) 7 (hk := ?_)
  refine step_gone (p := 2) 4 (hk := ?_)
  exact run_ret .rfl

theorem run_part39 (v4 v5 v12 v895 c1_i32_1034 : BitVec 32) : St X c K 126 ⊢ run c
    (k0_part39 xM (Memref.isWhole_whole _) oM (Memref.isWhole_whole _) rM (Memref.isWhole_whole _)
      cc0_scratch1 cc0_scratch2 cc0_scratch3 cc0_scratch4 cc0_scoped0 c v4 v5 v12 v895 c1_i32_1034) (fun _ => St X c K 129) := by
  rw [k0_part39_eq_skeleton]; unfold k0_part39_skel
  simp only [Prog.lift, Prog.bind_op, Prog.bind_ret, Prog.pure_eq_ret]
  refine step_got (p := 2) 4 (hk := ?_)
  refine step_gone (p := 2) 5 (hk := ?_)
  refine step_got (p := 2) 5 (hk := ?_)
  exact run_ret .rfl

theorem run_part40 (v3 v8 : BitVec 32) : St X c K 129 ⊢ run c
    (k0_part40 xM (Memref.isWhole_whole _) oM (Memref.isWhole_whole _) rM (Memref.isWhole_whole _)
      cc0_scratch1 cc0_scratch2 cc0_scratch3 cc0_scratch4 cc0_scoped0 c v3 v8) (fun _ => St X c K 134) := by
  rw [k0_part40_eq_skeleton]; unfold k0_part40_skel
  simp only [Prog.lift, Prog.bind_op, Prog.bind_ret, Prog.pure_eq_ret]
  refine step_send_done (p := 2) 7 (hk := ?_)
  refine step_gone (p := 4) 4 (hk := ?_)
  refine step_got (p := 4) 4 (hk := ?_)
  refine step_gone (p := 4) 5 (hk := ?_)
  refine step_got (p := 4) 5 (hk := ?_)
  exact run_ret .rfl

theorem run_part41 (v4 v5 v927 v1126 c1_i32_1096 : BitVec 32) : St X c K 134 ⊢ run c
    (k0_part41 xM (Memref.isWhole_whole _) oM (Memref.isWhole_whole _) rM (Memref.isWhole_whole _)
      cc0_scratch1 cc0_scratch2 cc0_scratch3 cc0_scratch4 cc0_scoped0 c v4 v5 v927 v1126 c1_i32_1096) (fun _ => St X c K 137) := by
  rw [k0_part41_eq_skeleton]; unfold k0_part41_skel
  simp only [Prog.lift, Prog.bind_op, Prog.bind_ret, Prog.pure_eq_ret]
  refine step_send_done (p := 4) 7 (hk := ?_)
  refine step_gone (p := 1) 4 (hk := ?_)
  refine step_got (p := 1) 4 (hk := ?_)
  exact run_ret .rfl

end Body

end Cert.KernelProof

end
-- ==== Proof.Spread2.lean ====
/-
# The last transfers

The last transfers are started, and every send and receive still open is waited for.
-/
module

public import proofs.«01_k».proof.Proof.Steps
public import proofs.«01_k».proof.Proof.Gen.KernelIdeal.Skeleton
public import Idealize.ShloMosaic.Lib.Pipeline.Value

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (X : Dev nD → Cont F) (K : Dev nD × Kind → ℕ) (c : Dev nD)

theorem run_part42 (v3 v4 v10 v959 : BitVec 32) : St X c K 137 ⊢ run c
    (k0_part42 xM (Memref.isWhole_whole _) oM (Memref.isWhole_whole _) rM (Memref.isWhole_whole _)
      cc0_scratch1 cc0_scratch2 cc0_scratch3 cc0_scratch4 cc0_scoped0 c v3 v4 v10 v959) (fun _ => St X c K 141) := by
  rw [k0_part42_eq_skeleton]; unfold k0_part42_skel
  simp only [Prog.lift, Prog.bind_op, Prog.bind_ret, Prog.pure_eq_ret]
  refine step_gone (p := 1) 5 (hk := ?_)
  refine step_got (p := 1) 5 (hk := ?_)
  refine step_send_done (p := 1) 7 (hk := ?_)
  refine step_gone (p := 3) 4 (hk := ?_)
  exact run_ret .rfl

theorem run_part43 (v4 v5 v12 v991 c1_i32_1160 : BitVec 32) : St X c K 141 ⊢ run c
    (k0_part43 xM (Memref.isWhole_whole _) oM (Memref.isWhole_whole _) rM (Memref.isWhole_whole _)
      cc0_scratch1 cc0_scratch2 cc0_scratch3 cc0_scratch4 cc0_scoped0 c v4 v5 v12 v991 c1_i32_1160) (fun _ => St X c K 144) := by
  rw [k0_part43_eq_skeleton]; unfold k0_part43_skel
  simp only [Prog.lift, Prog.bind_op, Prog.bind_ret, Prog.pure_eq_ret]
  refine step_got (p := 3) 4 (hk := ?_)
  refine step_gone (p := 3) 5 (hk := ?_)
  refine step_got (p := 3) 5 (hk := ?_)
  exact run_ret .rfl

theorem run_part44 (v3 v8 : BitVec 32) : St X c K 144 ⊢ run c
    (k0_part44 xM (Memref.isWhole_whole _) oM (Memref.isWhole_whole _) rM (Memref.isWhole_whole _)
      cc0_scratch1 cc0_scratch2 cc0_scratch3 cc0_scratch4 cc0_scoped0 c v3 v8) (fun _ => St X c K 149) := by
  rw [k0_part44_eq_skeleton]; unfold k0_part44_skel
  simp only [Prog.lift, Prog.bind_op, Prog.bind_ret, Prog.pure_eq_ret]
  refine step_send_done (p := 3) 7 (hk := ?_)
  refine step_gone (p := 5) 4 (hk := ?_)
  refine step_got (p := 5) 4 (hk := ?_)
  refine step_gone (p := 5) 5 (hk := ?_)
  refine step_got (p := 5) 5 (hk := ?_)
  exact run_ret .rfl

theorem run_part45 (v3 v5 v1023 v1225 c1_i32_1222 : BitVec 32) : St X c K 149 ⊢ run c
    (k0_part45 xM (Memref.isWhole_whole _) oM (Memref.isWhole_whole _) rM (Memref.isWhole_whole _)
      cc0_scratch1 cc0_scratch2 cc0_scratch3 cc0_scratch4 cc0_scoped0 c v3 v5 v1023 v1225 c1_i32_1222) (fun _ => St X c K 152) := by
  rw [k0_part45_eq_skeleton]; unfold k0_part45_skel
  simp only [Prog.lift, Prog.bind_op, Prog.bind_ret, Prog.pure_eq_ret]
  refine step_send_done (p := 5) 7 (hk := ?_)
  refine step_gone (p := 0) 6 (hk := ?_)
  refine step_got (p := 0) 6 (hk := ?_)
  exact run_ret .rfl

theorem run_part46 (v3 v4 : BitVec 32) : St X c K 152 ⊢ run c
    (k0_part46 xM (Memref.isWhole_whole _) oM (Memref.isWhole_whole _) rM (Memref.isWhole_whole _)
      cc0_scratch1 cc0_scratch2 cc0_scratch3 cc0_scratch4 cc0_scoped0 c v3 v4) (fun _ => St X c K 157) := by
  rw [k0_part46_eq_skeleton]; unfold k0_part46_skel
  simp only [Prog.lift, Prog.bind_op, Prog.bind_ret, Prog.pure_eq_ret]
  refine step_gone (p := 0) 7 (hk := ?_)
  refine step_got (p := 0) 7 (hk := ?_)
  refine step_gone (p := 2) 6 (hk := ?_)
  refine step_got (p := 2) 6 (hk := ?_)
  refine step_gone (p := 2) 7 (hk := ?_)
  exact run_ret .rfl

theorem run_part47 (v4 v5 : BitVec 32) : St X c K 157 ⊢ run c
    (k0_part47 xM (Memref.isWhole_whole _) oM (Memref.isWhole_whole _) rM (Memref.isWhole_whole _)
      cc0_scratch1 cc0_scratch2 cc0_scratch3 cc0_scratch4 cc0_scoped0 c v4 v5) (fun _ => St X c K 161) := by
  rw [k0_part47_eq_skeleton]; unfold k0_part47_skel
  simp only [Prog.lift, Prog.bind_op, Prog.bind_ret, Prog.pure_eq_ret]
  refine step_got (p := 2) 7 (hk := ?_)
  refine step_gone (p := 4) 6 (hk := ?_)
  refine step_got (p := 4) 6 (hk := ?_)
  refine step_gone (p := 4) 7 (hk := ?_)
  exact run_ret .rfl

theorem run_part48 (v3 : BitVec 32) : St X c K 161 ⊢ run c
    (k0_part48 xM (Memref.isWhole_whole _) oM (Memref.isWhole_whole _) rM (Memref.isWhole_whole _)
      cc0_scratch1 cc0_scratch2 cc0_scratch3 cc0_scratch4 cc0_scoped0 c v3) (fun _ => St X c K 166) := by
  rw [k0_part48_eq_skeleton]; unfold k0_part48_skel
  simp only [Prog.lift, Prog.bind_op, Prog.bind_ret, Prog.pure_eq_ret]
  refine step_got (p := 4) 7 (hk := ?_)
  refine step_gone (p := 1) 6 (hk := ?_)
  refine step_got (p := 1) 6 (hk := ?_)
  refine step_gone (p := 1) 7 (hk := ?_)
  refine step_got (p := 1) 7 (hk := ?_)
  exact run_ret .rfl

theorem run_part49 (v4 : BitVec 32) : St X c K 166 ⊢ run c
    (k0_part49 xM (Memref.isWhole_whole _) oM (Memref.isWhole_whole _) rM (Memref.isWhole_whole _)
      cc0_scratch1 cc0_scratch2 cc0_scratch3 cc0_scratch4 cc0_scoped0 c v4) (fun _ => St X c K 170) := by
  rw [k0_part49_eq_skeleton]; unfold k0_part49_skel
  simp only [Prog.lift, Prog.bind_op, Prog.bind_ret, Prog.pure_eq_ret]
  refine step_gone (p := 3) 6 (hk := ?_)
  refine step_got (p := 3) 6 (hk := ?_)
  refine step_gone (p := 3) 7 (hk := ?_)
  refine step_got (p := 3) 7 (hk := ?_)
  exact run_ret .rfl

end Body

end Cert.KernelProof

end
-- ==== Proof.Body.lean ====
/-
# The whole body

The parts follow one another: each hands the next the state it leaves. The last part also sends two of the three exit
signals; the third, and the wait for the mates', come after it.
-/
module

public import proofs.«01_k».proof.Proof.Barriers
public import proofs.«01_k».proof.Proof.Halve1
public import proofs.«01_k».proof.Proof.Halve2
public import proofs.«01_k».proof.Proof.Spread1
public import proofs.«01_k».proof.Proof.Spread2

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → Cont F) (K : Dev nD × Kind → ℕ) (c : Dev nD)

/-- The state between the second and the third exit signal. -/
def Leaving : sProp 𝕄 := iprop(Env X K ∗ (∃ W, owes (c : Thread nD τ) (tallyAt (endCell (peer 2 c)) () 1) W)
  ∗ duty (F := F) (endCell (peer 2 c)) 2 ∗ at0 (F := F) (endCell c) ∗ cred (tallyAt (endCell c) () 3) ∗ at1 (F := F) (barCell c) ∗ Parts X c 174)

/-- The exit's signals hand nothing over. -/
theorem leave : St X c K 174 ⊢ iprop(Env X K ∗ (∃ W, owes (c : Thread nD τ) (exits c) W)
    ∗ duty (F := F) (endCell (peer 0 c)) 0 ∗ pay X (peer 0 c) (.inl true) 0
    ∗ duty (F := F) (endCell (peer 1 c)) 1 ∗ pay X (peer 1 c) (.inl true) 1
    ∗ duty (F := F) (endCell (peer 2 c)) 2 ∗ at0 (F := F) (endCell c) ∗ cred (tallyAt (endCell c) () 3) ∗ at1 (F := F) (barCell c) ∗ Parts X c 174) := by
  have he (d : Fin 3) : (emp : sProp 𝕄) ⊢ pay X (peer d c) (.inl true) d := .rfl
  unfold St Exit
  rw [O_last]
  iintro ⟨HE, HO, HP, Hb, Ha, Hc, H0, H1, H2⟩
  isplitl [HE]; · iexact HE
  isplitl [HO]; · iexact HO
  isplitl [H0]; · iexact H0
  isplitr; · iapply (he 0); iempintro
  isplitl [H1]; · iexact H1
  isplitr; · iapply (he 1); iempintro
  isplitl [H2]; · iexact H2
  isplitl [Ha]; · iexact Ha
  isplitl [Hc]; · iexact Hc
  isplitl [Hb] <;> iassumption

theorem run_part50 (v3 v4 v5 : BitVec 32) : St X c K 170 ⊢ run c
    (k0_part50 xM (Memref.isWhole_whole _) oM (Memref.isWhole_whole _) rM (Memref.isWhole_whole _)
      cc0_scratch1 cc0_scratch2 cc0_scratch3 cc0_scratch4 cc0_scoped0 c v3 v4 v5) (fun _ => Leaving X K c) := by
  rw [k0_part50_eq_skeleton]; unfold k0_part50_skel
  simp only [semSignalWord, Prog.lift, Prog.bind_op, Prog.bind_ret, Prog.pure_eq_ret]
  refine step_gone (p := 5) 6 (hk := ?_)
  refine step_got (p := 5) 6 (hk := ?_)
  refine step_gone (p := 5) 7 (hk := ?_)
  refine step_got (p := 5) 7 (hk := ?_)
  refine (leave X K c).trans ?_
  refine step_signal true 0 (hk := ?_)
  refine step_signal true 1 (hk := ?_)
  exact run_ret .rfl

/-- The third exit signal, and the wait. -/
theorem run_leave : Leaving X K c ⊢ run c
    (.op (.semSignal ((⟨k0_dev54 c, k0_dev54_lt c⟩ : Dev nD), .tc) cc0_scoped0.sem (1#32 : BitVec 32).toInt) fun _ =>
      .op (.semWait cc0_scoped0.sem (3#32 : BitVec 32).toInt) fun _ => .ret ⟨⟩) (fun _ : PUnit => Done X c) := by
  have h : Leaving X K c ⊢ iprop(Env X K ∗ (∃ W, owes (c : Thread nD τ) (tallyAt (endCell (peer 2 c)) () 1) W)
      ∗ duty (F := F) (endCell (peer 2 c)) 2 ∗ pay X (peer 2 c) (.inl true) 2 ∗ at0 (F := F) (endCell c) ∗ cred (tallyAt (endCell c) () 3)
      ∗ at1 (F := F) (barCell c) ∗ Parts X c 174) := by
    unfold Leaving
    iintro ⟨HE, HO, Hd, HR⟩
    isplitl [HE]; · iexact HE
    isplitl [HO]; · iexact HO
    isplitl [Hd]; · iexact Hd
    isplitr; · iapply (show (emp : sProp 𝕄) ⊢ pay X (peer 2 c) (.inl true) 2 from .rfl); iempintro
    iexact HR
  refine h.trans ?_
  clear h
  refine step_signal true 2 (O₂ := 0) (hO := (zero_add _).symm) (hk := ?_)
  refine step_wait true (hmay := by rw [MayWait_zero]; iintro -; iempintro) (hk := ?_)
  exact (left X K c).trans (by unfold run; rw [wp_ret])

theorem fact_left {φ : Prop} {A B : sProp 𝕄} (h : φ → A ⊢ B) : iprop(⌜φ⌝ ∗ A) ⊢ B := by
  iintro ⟨%hφ, HA⟩
  iapply (h hφ)
  iexact HA

/-- The body, from first signal to last wait. -/
theorem run_body : Start X K c ⊢ run c
    (cc0_body xM (Memref.isWhole_whole _) oM (Memref.isWhole_whole _) rM (Memref.isWhole_whole _)
      cc0_scratch1 cc0_scratch2 cc0_scratch3 cc0_scratch4 cc0_scoped0) (fun _ => Done X c) := by
  rw [cc0_body_eq_skeleton]; unfold cc0_body_skel
  refine run_seq (run_part1 X K c) ?_
  rintro ⟨d0, v3, v4, v5, v8, v10, v12, v23, c0_i32_22⟩
  refine fact_left fun h => ?_
  have h : d0 = c := h
  subst d0
  refine run_seq (run_part2 X K c v3 v4 v8 v10 v23 c0_i32_22) ?_
  intro c1_i32_48
  refine run_seq (run_part3 X K c v4 v5 v10 v12 c1_i32_48) ?_
  rintro ⟨v78, c0_i32_75⟩
  refine run_seq (run_part4 X K c v3 v8 v10 v78 c0_i32_75) ?_
  rintro ⟨v97, v99, v107⟩
  refine fact_left fun h => ?_
  have h : v107 = _ := h
  subst v107
  refine run_seq (run_part5 X K c v4 v10 v97 v99) ?_
  intro _
  refine run_seq (run_part6 X K c v4 v5 v10 v12) ?_
  rintro ⟨v143, v167⟩
  refine run_seq (run_part7 X K c v5 v8 v12 v143 v167) ?_
  rintro ⟨v189, v191, v192, v195⟩
  refine fact_left fun h => ?_
  have h : v195 = _ := h
  subst v195
  refine run_seq (run_part8 X K c v3 v8 v189 v191 v192) ?_
  intro _
  refine run_seq (run_part9 X K c v3 v4 v8 v10) ?_
  rintro ⟨v235, v237⟩
  refine run_seq (run_part10 X K c v4 v10 v12 v235 v237) ?_
  rintro ⟨v281, v283, v284, v286⟩
  refine fact_left fun h => ?_
  have h : v286 = _ := h
  subst v286
  refine run_seq (run_part11 X K c v5 v12 v281 v283 v284) ?_
  intro _
  refine run_seq (run_part12 X K c v3 v5 v8 v12) ?_
  rintro ⟨v327, v329⟩
  refine run_seq (run_part13 X K c v4 v10 v12 v97 v327 v329) ?_
  rintro ⟨v373, v375, v376⟩
  refine run_seq (run_part14 X K c v5 v12 v373 v375 v376) ?_
  intro _
  refine run_seq (run_part15 X K c v3 v5 v8 v12 v143) ?_
  rintro ⟨v419, v421⟩
  refine run_seq (run_part16 X K c v3 v8 v10 v189 v419 v421) ?_
  rintro ⟨v465, v466, c88_i32_413⟩
  refine run_seq (run_part17 X K c v4 v10 v465 v466 c88_i32_413) ?_
  intro _
  refine run_seq (run_part18 X K c v4 v5 v10 v12 v235) ?_
  rintro ⟨v511, v513⟩
  refine run_seq (run_part19 X K c v5 v12 v281 v511 v513) ?_
  rintro ⟨v557, c1_i32_490⟩
  refine run_seq (run_part20 X K c v3 v8 v557 c1_i32_490) ?_
  intro _
  refine run_seq (run_part21 X K c v3 v4 v8 v10 v327) ?_
  rintro ⟨v603, v605, v619⟩
  refine run_seq (run_part22 X K c v5 v12 v603 v605 v619) ?_
  intro v648
  refine run_seq (run_part23 X K c v4 v5 v373 v648) ?_
  intro v649
  refine run_seq (run_part24 X K c v3 v5 v8 v419) ?_
  intro v684
  refine run_seq (run_part25 X K c v4 v10 v465) ?_
  intro v719
  refine run_seq (run_part26 X K c v3 v5 v12 v511) ?_
  rintro ⟨v754, v757⟩
  refine fact_left fun h => ?_
  have h : v757 = _ := h
  subst v757
  refine run_seq (run_part27 X K c v3 v4 v5 v754) ?_
  intro v782
  refine run_seq (run_part28 X K c v3 v5 v8 v557 v782) ?_
  intro v789
  refine run_seq (run_part29 X K c v4 v10 v603) ?_
  intro v824
  refine run_seq (run_part30 X K c v3 v4 v5 v12 v649) ?_
  rintro ⟨v863, v864⟩
  refine run_seq (run_part31 X K c v3 v8 v864) ?_
  rintro ⟨v891, c88_i32_823⟩
  refine run_seq (run_part32 X K c v4 v5 v8 v684 v891 c88_i32_823) ?_
  intro v895
  refine run_seq (run_part33 X K c v3 v5 v10 v719) ?_
  intro v927
  refine run_seq (run_part34 X K c v3 v4 v5 v12 v754) ?_
  intro v959
  refine run_seq (run_part35 X K c v3 v5 v8 v789) ?_
  rintro ⟨v991, c1_i32_942⟩
  refine run_seq (run_part36 X K c v3 v4 v10 v824 c1_i32_942) ?_
  intro v1023
  refine run_seq (run_part37 X K c v4 v5) ?_
  intro _
  refine run_seq (run_part38 X K c v3 v4 v10 v863) ?_
  intro c1_i32_1034
  refine run_seq (run_part39 X K c v4 v5 v12 v895 c1_i32_1034) ?_
  intro _
  refine run_seq (run_part40 X K c v3 v8) ?_
  rintro ⟨v1126, c1_i32_1096⟩
  refine run_seq (run_part41 X K c v4 v5 v927 v1126 c1_i32_1096) ?_
  intro _
  refine run_seq (run_part42 X K c v3 v4 v10 v959) ?_
  intro c1_i32_1160
  refine run_seq (run_part43 X K c v4 v5 v12 v991 c1_i32_1160) ?_
  intro _
  refine run_seq (run_part44 X K c v3 v8) ?_
  rintro ⟨v1225, c1_i32_1222⟩
  refine run_seq (run_part45 X K c v3 v5 v1023 v1225 c1_i32_1222) ?_
  intro _
  refine run_seq (run_part46 X K c v3 v4) ?_
  intro _
  refine run_seq (run_part47 X K c v4 v5) ?_
  intro _
  refine run_seq (run_part48 X K c v3) ?_
  intro _
  refine run_seq (run_part49 X K c v4) ?_
  intro _
  refine run_seq (run_part50 X K c v3 v4 v5) ?_
  intro _
  simp only [semSignalWord, semWaitWord, Prog.lift, Prog.bind_op, Prog.bind_ret, Prog.pure_eq_ret]
  exact run_leave X K c

end

end Cert.KernelProof

end
-- ==== Proof.Deal.lean ====
/-
# Dealing out the handles

At launch the handles of all counters are made at once. Each device keeps its own places at them, but the right to raise
a counter goes to the device that raises it: a barrier's to the mate along that axis, a receive counter's to the sender.
The credit a device has at its own counters is what all devices together owe them.
-/
module

public import proofs.«01_k».proof.Proof.Barriers
public import Idealize.ShloMosaic.Lib.Pipeline.Launch
public import Idealize.ShloMosaic.Lib.Pipeline.Kit

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rights to raise -/

/-- A device's transfers, and its barriers' axes. -/
abbrev Tr : Type := Fin 6 × Fin 8
abbrev Duty : Type := (Bool × Fin 3) ⊕ (Bool × Tr)

/-- A statement about all counters: the two barriers', the transfers' send and their receive counters. -/
theorem bigSep_counters (Φ : Kind → sProp 𝕄) : bigSep Finset.univ Φ = iprop((Φ (.inl false) ∗ Φ (.inl true))
    ∗ (bigSep Finset.univ fun pe : Tr => Φ (.inr (false, pe))) ∗ bigSep Finset.univ fun pe : Tr => Φ (.inr (true, pe))) := by
  rw [bigSep_univ_sum, bigSep_bool, bigSep_univ_prod, bigSep_bool]; rfl

def tokOf : Dev nD × Duty → GSem nD τ sig × ℕ × Fin 3
  | (c, .inl (b, d)) => (cell c (.inl b), 0, d)
  | (c, .inr x) => (cell c (.inr x), 0, 0)

theorem tokOf_inj : Function.Injective tokOf := by
  rintro ⟨c, x⟩ ⟨c', x'⟩ h
  have h1 : (tokOf (c, x)).1 = (tokOf (c', x')).1 := congrArg Prod.fst h
  have h2 : (tokOf (c, x)).2.2 = (tokOf (c', x')).2.2 := congrArg (fun y => y.2.2) h
  rcases x with ⟨b, d⟩ | y <;> rcases x' with ⟨b', d'⟩ | y' <;> obtain ⟨rfl, hk⟩ := cell_inj h1 <;> cases hk
  · have h2 : d = d' := h2
    rw [h2]
  · rfl

theorem cells_inj : Function.Injective fun ck : Dev nD × Kind => cell ck.1 ck.2 := fun a b h =>
  Prod.ext (cell_inj h).1 (cell_inj h).2

def allCells : Finset (GSem nD τ sig) := Finset.univ.map ⟨_, cells_inj⟩
def allToks : Finset (GSem nD τ sig × ℕ × Fin 3) := Finset.univ.map ⟨tokOf, tokOf_inj⟩

/-- The rights at a device's own counters. -/
def toks (c : Dev nD) : sProp 𝕄 := iprop(
  (bigSep Finset.univ fun b => bigSep Finset.univ fun d => duty (F := F) (cell c (.inl b)) d)
  ∗ (bigSep Finset.univ fun pe : Tr => duty (F := F) (sendCell c pe.1 pe.2) 0)
  ∗ bigSep Finset.univ fun pe : Tr => duty (F := F) (recvCell c pe.1 pe.2) 0)

/-- The rights a device uses. -/
def uses (c : Dev nD) : sProp 𝕄 := iprop(
  (bigSep Finset.univ fun b => bigSep Finset.univ fun d => duty (F := F) (cell (peer d c) (.inl b)) d)
  ∗ (bigSep Finset.univ fun pe : Tr => duty (F := F) (sendCell c pe.1 pe.2) 0)
  ∗ bigSep Finset.univ fun pe : Tr => duty (F := F) (recvCell (tgt pe.1 pe.2 c) pe.1 pe.2) 0)

theorem toks_eq (c : Dev nD) : (bigSep Finset.univ fun x : Duty => (fun y => (dutyTok ER y.1 y.2.1 y.2.2 : sProp 𝕄)) (tokOf (c, x))) = toks c := by
  rw [bigSep_univ_sum, bigSep_univ_prod, bigSep_univ_prod, bigSep_bool fun b => bigSep Finset.univ fun pe : Tr => _]
  rfl

def tgtEquiv (pe : Tr) : Dev nD ≃ Dev nD := ⟨tgt pe.1 pe.2, tgt pe.1 pe.2, tgt_tgt _ _, tgt_tgt _ _⟩

theorem toks_dealt : (bigSep Finset.univ fun c => toks (F := F) c) = bigSep Finset.univ fun c => uses (F := F) c := by
  unfold toks uses
  simp only [bigSep_sep']
  congr 1
  · rw [bigSep_univ_comm, bigSep_univ_comm fun (c : Dev nD) b => _]
    refine bigSep_congr fun b _ => ?_
    rw [bigSep_univ_comm, bigSep_univ_comm fun (c : Dev nD) d => _]
    exact bigSep_congr fun d _ => bigSep_univ_equiv (peerEquiv d) _
  · congr 1
    rw [bigSep_univ_comm, bigSep_univ_comm fun (c : Dev nD) (pe : Tr) => _]
    exact bigSep_congr fun pe _ => bigSep_univ_equiv (tgtEquiv pe) _

/-! ## The credit -/

theorem owed_once (f : Dev nD → Dev nD) (hf : ∀ d, f (f d) = d) (k' k : Kind) (n : ℕ) (c : Dev nD) :
    ∑ d, (tallyAt (cell (f d) k') () n : CellTallies nD τ sig Unit) (cell c k) () = if k' = k then n else 0 := by
  by_cases h : k' = k
  · subst h
    rw [if_pos rfl, Finset.sum_eq_single (f c)]
    · rw [hf, tallyAt_apply, if_pos ⟨rfl, rfl⟩]
    · intro d _ hd
      rw [tallyAt_apply, if_neg fun h' => hd (by rw [← hf d, (cell_inj h'.1).1])]
    · exact fun h' => absurd (Finset.mem_univ _) h'
  · rw [if_neg h]
    exact Finset.sum_eq_zero fun d _ => by rw [tallyAt_apply, if_neg fun h' => h (cell_inj h'.1).2.symm]

/-- What all devices together owe a counter. -/
def due : Kind → ℕ
  | .inl _ => 3
  | .inr (false, _, _) => 0
  | .inr (true, p, e) => credit (len p e)

theorem O_first (c : Dev nD) : O c 0 = exits c + ∑ pe : Tr, tallyAt (recvCell (tgt pe.1 pe.2 c) pe.1 pe.2) () (credit (len pe.1 pe.2)) := by
  unfold O owedAt
  exact congrArg (exits c + ·) (Finset.sum_congr rfl fun pe _ => if_pos (by rw [steps_first]; exact (times pe.2).1))

theorem sum_owed (c : Dev nD) (k : Kind) : ∑ d, allOwed d (cell c k) () = due k := by
  unfold allOwed
  simp only [O_first, exits, Pi.add_apply, Finsupp.add_apply, Finset.sum_apply, Finsupp.finset_sum_apply, Finset.sum_add_distrib]
  rw [Finset.sum_comm (f := fun (d : Dev nD) (pe : Tr) => _)]
  rw [Finset.sum_congr rfl fun (pe : Tr) _ => owed_once (tgt pe.1 pe.2) (tgt_tgt _ _) (.inr (true, pe.1, pe.2)) k (credit (len pe.1 pe.2)) c]
  simp only [owed_once _ (peer_peer _)]
  match k with
  | .inl false => simp [due]
  | .inl true => simp [due]
  | .inr (false, p, e) => simp [due]
  | .inr (true, p, e) =>
    rw [Finset.sum_eq_single (p, e)]
    · simp [due]
    · exact fun pe _ h => if_neg fun h' => h (by cases h'; rfl)
    · exact fun h => absurd (Finset.mem_univ _) h

theorem launch_due (c : Dev nD) (k : Kind) :
    tallyOn (cell c k) (launchCredit (Pipeline.owing allOwed) 0 (cell c k)) = (tallyAt (cell c k) () (due k) : CellTallies nD τ sig Unit) := by
  unfold tallyAt
  refine congrArg _ (Finsupp.ext fun u => ?_)
  cases u
  rw [Pipeline.launchCredit_owing, Finsupp.single_eq_same, sum_owed]

/-- The credit a device has at its own counters. -/
def creds (c : Dev nD) : sProp 𝕄 := iprop(cred (tallyAt (barCell c) () 3) ∗ cred (tallyAt (endCell c) () 3)
  ∗ bigSep Finset.univ fun pe : Tr => credOf (F := F) c (.inr (true, pe.1, pe.2)))

theorem creds_dealt (c : Dev nD) : (Pipeline.launchCred allOwed c : sProp 𝕄) ⊢ creds c := by
  have h : (Pipeline.launchCred allOwed c : sProp 𝕄) ⊢ bigSep Finset.univ fun k : Kind => cred (tallyAt (cell c k) () (due k)) := by
    unfold Pipeline.launchCred
    refine (bigSep_subset (Finset.subset_univ (Finset.univ.map (⟨csem, fun a b => csem_inj a b⟩ : Kind ↪ SemLoc sig)))).trans ?_
    rw [bigSep_map]
    exact bigSep_mono fun k _ => Entails.of_eq (congrArg cred (launch_due c k))
  refine h.trans ?_
  rw [bigSep_counters]
  unfold creds
  iintro ⟨⟨Hb, He⟩, -, Hr⟩
  isplitl [Hb]; · iexact Hb
  isplitl [He]; · iexact He
  iexact Hr

/-! ## What a device starts with -/

def handles (c : Dev nD) : sProp 𝕄 := iprop((bigSep Finset.univ fun k : Kind => at0 (F := F) (cell c k)) ∗ uses (F := F) c)

theorem dealt (c : Dev nD) : iprop(handles (F := F) c ∗ creds (F := F) c)
    ⊢ iprop(Entry (F := F) c ∗ ExitRest (F := F) c ∗ bigSep Finset.univ fun p => Cel (F := F) p c 0) := by
  have hc : (bigSep Finset.univ fun p => Cel (F := F) p c 0)
      = bigSep Finset.univ fun pe : Tr => iprop((duty (F := F) (sendCell c pe.1 pe.2) 0 ∗ duty (F := F) (recvCell (tgt pe.1 pe.2 c) pe.1 pe.2) 0)
        ∗ at0 (F := F) (sendCell c pe.1 pe.2) ∗ credOf (F := F) c (.inr (true, pe.1, pe.2)) ∗ at0 (F := F) (recvCell c pe.1 pe.2)) := by
    rw [bigSep_univ_prod]
    exact bigSep_congr fun p _ => bigSep_congr fun e _ => hand_first p c e
  rw [hc]
  unfold handles uses creds Entry ExitRest
  rw [bigSep_counters, bigSep_bool, bigSep_legs, bigSep_legs]
  simp only [bigSep_sep']
  iintro ⟨⟨⟨⟨Hb, He⟩, Hs, Hr⟩, ⟨⟨B0, B1, B2⟩, E0, E1, E2⟩, Hds, Hdr⟩, Cb, Ce, Cr⟩
  isplitl [Hb Cb B0 B1 B2]
  · isplitl [Hb]; · iexact Hb
    isplitl [Cb]; · iexact Cb
    isplitl [B0]; · iexact B0
    isplitl [B1] <;> iassumption
  isplitl [He Ce E0 E1 E2]
  · isplitl [He]; · iexact He
    isplitl [Ce]; · iexact Ce
    isplitl [E0]; · iexact E0
    isplitl [E1] <;> iassumption
  isplitl [Hds Hdr]
  · isplitl [Hds] <;> iassumption
  isplitl [Hs]; · iexact Hs
  isplitl [Cr]; · iexact Cr
  iexact Hr

/-! ## Levels -/

/-- Everything owed at the start is at one of the counters, above level 0. -/
theorem allOwed_pos {c : Dev nD} {g : GSem nD τ sig} {u : Unit} (h : 0 < allOwed c g u) : ∃ d k, g = cell d k ∧ 0 < lvOf k := by
  by_contra hn
  have ht : ∀ d, (tallyAt (barCell (peer d c)) () 1 : CellTallies nD τ sig Unit) g u = 0 := fun d => by
    rw [tallyAt_apply, if_neg fun h' => hn ⟨peer d c, .inl false, h'.1, by decide⟩]
  have hO : O c 0 g u = 0 := by
    by_contra h0
    rcases O_pos c (Nat.pos_of_ne_zero h0) with ⟨pe, -, rfl⟩ | ⟨d, rfl⟩
    · exact hn ⟨_, _, rfl, (by decide : ∀ e, 0 < recvLv e) pe.2⟩
    · exact hn ⟨_, _, rfl, by decide⟩
  unfold allOwed at h
  rw [Pi.add_apply, Finsupp.add_apply, Pi.add_apply, Finsupp.add_apply, Pi.add_apply, Finsupp.add_apply, ht, ht, ht, hO] at h
  exact absurd h (Nat.lt_irrefl _)

/-- So the device may wait at a counter that is none of the kernel's. -/
theorem mayWait_other (c : Dev nD) (sm : SemLoc sig) (hsm : ∀ k, csem k ≠ sm) (O : CellTallies nD τ sig Unit) (hO : O = allOwed c ∨ O = 0) :
    (levAts L lv : sProp 𝕄) ⊢ MayWait (c : Thread nD τ) sm () O := by
  rcases hO with rfl | rfl
  · have h0 : lv ((c : Thread nD τ), sm) () = 0 := by
      unfold lv kindOf
      rw [dif_neg fun ⟨k, hk⟩ => hsm k hk]; rfl
    refine MayOwe.of_cut (L := L) (lev := lv) 0 (fun q hq => by rw [Finset.mem_singleton.mp hq, L_tc]; exact Finset.mem_singleton_self _)
      (fun g u hg => ?_) (fun q hq => by rw [Finset.mem_singleton.mp hq]; exact Nat.le_of_eq h0) (fun g u hg => ?_)
    · obtain ⟨d, k, rfl, -⟩ := allOwed_pos hg; exact Finset.mem_singleton_self _
    · obtain ⟨d, k, rfl, hk⟩ := allOwed_pos hg; exact hk.trans_eq (lv_cell d k).symm
  · rw [MayWait_zero]; iintro -; iempintro

end Cert.KernelProof

end
-- ==== Proof.Launch.lean ====
/-
# The whole program

The kernel launched on all eight devices: the handles are dealt out, each device's body runs from `Start` to `Done`, and
at the end every device's result array holds `total` of the argument arrays, its argument array is unchanged and every
counter is zero. This holds for every reading of the floats.
-/
module

public import proofs.«01_k».proof.Proof.Body
public import proofs.«01_k».proof.Proof.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the start. -/
def init : MemSt nD τ sig (Elt F) := ⟨m, fun _ => 0, ρ⟩

/-- A device's argument, as the kernel finds it in its first buffer. -/
def arg (c : Dev nD) : Cont F := (win0_0.blk (0 : Fin 1)).view.read (Elt F) ((init m ρ).mem ((c : Thread nD τ).loc main_arg0))

/-! ## The stages of the launch -/

/-- What a device has besides its buffers before its body, under the names some allocation gave. -/
def start (c : Dev nD) : sProp 𝕄 := iprop(∃ K, Env (arg m ρ) K ∗ Entry (F := F) c ∗ ExitRest (F := F) c ∗ bigSep Finset.univ fun p => Cel (F := F) p c 0)

def before (c : Dev nD) : sProp 𝕄 := iprop(start m ρ c ∗ anyR (F := F) c Finset.univ)
def after (c : Dev nD) : sProp 𝕄 := iprop((bigSep Finset.univ fun k : Kind => semVal (cell c k) 0) ∗ anyR (F := F) c Finset.univ)

def dats (_ : Fin 1) (c : Dev nD) : Dat τ (Elt F) Unit ℕ UU ℕ cfg0 c where
  A w := (init m ρ).mem ((cfg0.win w).arr.view.loc (c : Thread nD τ))
  after w _ := match w with
    | ⟨0, _⟩ => arg m ρ c
    | ⟨1, _⟩ => total (arg m ρ)
  Φ t := match t with
    | ⟨0, _⟩ => before m ρ c
    | ⟨_ + 1, _⟩ => after c
  q _ := fullShare
  owed t := match t with
    | ⟨0, _⟩ => allOwed c
    | ⟨_ + 1, _⟩ => 0

/-! ## The body -/

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

abbrev held (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre (c : Dev nD) : sProp 𝕄 := iprop(before m ρ c ∗ (dats m ρ 0 c).owesAt () t0_0.castSucc
  ∗ (∃ d, held c cc0_stg0_0 ((dats m ρ 0 c).before (0 : Fin 2) t0_0 d)) ∗ (∃ d, held c cc0_stg1_0 ((dats m ρ 0 c).before (1 : Fin 2) t0_0 d)))
def bodyPost (c : Dev nD) : sProp 𝕄 := iprop(after (F := F) c ∗ (dats m ρ 0 c).owesAt () t0_0.succ
  ∗ held c cc0_stg0_0 (arg m ρ c) ∗ held c cc0_stg1_0 (total (arg m ρ)))

theorem pre_start (c : Dev nD) : bodyPre m ρ c ⊢ iprop(∃ K, Start (arg m ρ) K c) := by
  unfold bodyPre before start Dat.owesAt Pipeline.owesWithin
  rw [show (dats m ρ 0 c).owed t0_0.castSucc = allOwed c from rfl]
  iintro ⟨⟨⟨%K, HE, Hn, Hx, HC⟩, HR⟩, ⟨%W, %hW, HO⟩, ⟨%d0, %g0, %hg0, HX⟩, ⟨%d1, %g1, %hg1, HY⟩⟩
  have hx : g0 = arg m ρ c := by rw [hg0]; unfold Dat.before; rw [if_pos (fetch0_0 t0_0)]; rfl
  subst hx
  iexists K
  unfold Start
  isplitl [HE]; · iexact HE
  isplitl [HO]; · iexists W; iexact HO
  isplitl [Hn]; · iexact Hn
  isplitl [Hx]; · iexact Hx
  isplitl [HC]; · iexact HC
  isplitl [HX]; · iapply (show (((c : Thread nD τ).loc cc0_stg0_0) ↦{fullShare} arg m ρ c : sProp 𝕄) ⊢ ptX c Finset.univ fullShare (arg m ρ c) from .rfl); iexact HX
  isplitl [HY]
  · iapply (show (((c : Thread nD τ).loc cc0_stg1_0) ↦{fullShare} g1 : sProp 𝕄) ⊢ anyO (F := F) c Finset.univ from by
      unfold anyO; iintro H; iexists g1; iapply (show (((c : Thread nD τ).loc cc0_stg1_0) ↦{fullShare} g1 : sProp 𝕄) ⊢ ptO c Finset.univ fullShare g1 from .rfl); iexact H)
    iexact HY
  iexact HR

theorem done_post (c : Dev nD) : Done (arg m ρ) c ⊢ bodyPost m ρ c := by
  unfold Done bodyPost after Dat.owesAt Pipeline.owesWithin
  rw [show (dats m ρ 0 c).owed t0_0.succ = 0 from rfl]
  iintro ⟨⟨%W, HO⟩, Hz, HX, HY, HR⟩
  isplitl [Hz HR]
  · isplitl [Hz] <;> iassumption
  isplitl [HO]
  · iexists W
    isplitr; · ipureintro; exact fun _ _ => Or.inl trivial
    iexact HO
  isplitl [HX]
  · iexists (arg m ρ c)
    isplitr; · (ipureintro; rfl)
    iapply (show ptX c Finset.univ fullShare (arg m ρ c) ⊢ (((c : Thread nD τ).loc cc0_stg0_0) ↦{fullShare} arg m ρ c : sProp 𝕄) from .rfl); iexact HX
  iexists (total (arg m ρ))
  isplitr; · (ipureintro; rfl)
  iapply (show ptO c Finset.univ fullShare (total (arg m ρ)) ⊢ (((c : Thread nD τ).loc cc0_stg1_0) ↦{fullShare} total (arg m ρ) : sProp 𝕄) from .rfl); iexact HY

theorem body_pre_post (c : Dev nD) : bodyPre m ρ c ⊢ run c
    (cc0_body xM (Memref.isWhole_whole _) oM (Memref.isWhole_whole _) rM (Memref.isWhole_whole _)
      cc0_scratch1 cc0_scratch2 cc0_scratch3 cc0_scratch4 cc0_scoped0) (fun _ => bodyPost m ρ c) := by
  refine (pre_start m ρ c).trans ?_
  iintro ⟨%K, H⟩
  iapply ((run_body (arg m ρ) K c).trans (show run c _ (fun _ => Done (arg m ρ) c) ⊢ run c _ (fun _ => bodyPost m ρ c) from by
    unfold run; exact wp_mono _ _ _ fun _ => done_post m ρ c))
  iexact H

set_option maxRecDepth 65536 in
theorem body_ok (c : Dev nD) : BodyObligation (dats (F := F) m ρ 0 c) (defs₀ (F := F)) 𝒱₀ () Set.univ := fun t => by
  rw [fin_N0 t, bigSep_W0, bigSep_W0]
  simp only [owns_whole]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_scratch0) (Memref.isWhole_whole _)
      cc0_scratch1 cc0_scratch2 cc0_scratch3 cc0_scratch4 cc0_scoped0) (fun _ => bodyPost m ρ c)
  exact body_pre_post m ρ c

/-! ## The counters of the launch -/

/-- The counters the kernel declares itself; the entry barrier's is not among them. -/
abbrev Own : Type := Unit ⊕ (Bool × Tr)
def ownKind : Own → Kind := Sum.map (fun _ => true) id
def osem (x : Own) : SemLoc sig := csem (ownKind x)

theorem ownKind_inj : Function.Injective ownKind := by
  rintro (⟨⟩ | x) (⟨⟩ | y) h
  · rfl
  · cases h
  · cases h
  · cases h; rfl

theorem own_facts : Pipeline.OwnSemFacts cfg0.spec osem where
  isScoped := by decide +kernel
  inj := fun a b h => ownKind_inj (csem_inj _ _ h)
  disj := by decide +kernel

theorem share_full (c : Dev nD) (w : Fin cfg0.W) : (dats m ρ 0 c).share w = fullShare := by unfold Dat.share; split <;> rfl

theorem sems_eq (c : Dev nD) :
    iprop(Pipeline.ownSems0 (Ix := Unit) (Name := ℕ) (U := UU) (Lvl := ℕ) (Val := Elt F) (τ := τ) osem c ∗ unscopedSems0 c)
      = (bigSep Finset.univ fun k : Kind => semVal (cell c k) 0 : sProp 𝕄) := by
  have h1 : (unscopedSems0 c : sProp 𝕄) = semVal (barCell c) 0 := by
    unfold unscopedSems0; rw [bigSep_eq_bigSepL_of_eq [SemLoc.reg barS] (by decide +kernel) (by decide)]; rfl
  have h2 : (Pipeline.ownSems0 (Ix := Unit) (Name := ℕ) (U := UU) (Lvl := ℕ) (Val := Elt F) (τ := τ) osem c : sProp 𝕄)
      = iprop(semVal (endCell c) 0 ∗ (bigSep Finset.univ fun pe : Tr => semVal (sendCell c pe.1 pe.2) 0) ∗ bigSep Finset.univ fun pe : Tr => semVal (recvCell c pe.1 pe.2) 0) := by
    unfold Pipeline.ownSems0
    rw [bigSep_univ_sum, bigSep_univ_of_subsingleton (), bigSep_univ_prod, bigSep_bool]; rfl
  rw [h1, h2, bigSep_counters]
  refine BI.equiv_iff.mp ⟨?_, ?_⟩
  · show iprop((semVal (endCell c) 0 ∗ _) ∗ semVal (barCell c) 0) ⊢ iprop((semVal (barCell c) 0 ∗ semVal (endCell c) 0) ∗ _)
    iintro ⟨⟨He, Ht⟩, Hb⟩
    isplitl [He Hb]
    · isplitl [Hb] <;> iassumption
    · iexact Ht
  · show iprop((semVal (barCell c) 0 ∗ semVal (endCell c) 0) ∗ _) ⊢ iprop((semVal (endCell c) 0 ∗ _) ∗ semVal (barCell c) 0)
    iintro ⟨⟨Hb, He⟩, Ht⟩
    isplitr [Hb]
    · isplitl [He] <;> iassumption
    · iexact Hb

/-! ## Making and dealing the handles -/

def made : UU := (initOf (Pipeline.cells cfgs cellOf_inj) (Pipeline.launchToks cfgs cellOf_inj), initOf allCells allToks)

/-- Each device's share of what is made, before the counters are under their invariants, -/
def share (c : Dev nD) : sProp 𝕄 := iprop(
  (bigSep Finset.univ fun k : Kind => roundState ER (hs (arg m ρ)) (cell c k) 0)
  ∗ (bigSep Finset.univ fun k : Kind => at0 (F := F) (cell c k)) ∗ (bigSep Finset.univ fun k : Kind => reached ER (cell c k) 0) ∗ toks (F := F) c)
/-- and after. -/
def share' (c : Dev nD) : sProp 𝕄 := iprop(∃ K : Dev nD × Kind → ℕ,
  ((bigSep Finset.univ fun ck : Dev nD × Kind => cellInv ER (hs (arg m ρ)) (K ck) (cell ck.1 ck.2))
    ∗ bigSep Finset.univ fun ck : Dev nD × Kind => reached ER (cell ck.1 ck.2) 0) ∗ handles (F := F) c)

theorem shares_made : BI.own (ER (initOf allCells allToks)) ⊢ (|==> bigSep Finset.univ (share m ρ) : sProp 𝕄) := by
  have hC (Φ : GSem nD τ sig → sProp 𝕄) : bigSep allCells Φ = bigSep Finset.univ fun c : Dev nD => bigSep Finset.univ fun k : Kind => Φ (cell c k) := by
    unfold allCells; rw [bigSep_map, bigSep_univ_prod]; rfl
  have hT : bigSep allToks (fun y => (dutyTok ER y.1 y.2.1 y.2.2 : sProp 𝕄)) = bigSep Finset.univ fun c : Dev nD => toks (F := F) c := by
    unfold allToks; rw [bigSep_map, bigSep_univ_prod]
    exact bigSep_congr fun c _ => toks_eq c
  unfold share
  simp only [bigSep_sep']
  iintro H
  imod (Rounds.fund ER (hs (arg m ρ)) allCells allToks) $$ H with ⟨H1, H2, H3, H4⟩
  imodintro
  isplitl [H1]; · iapply (Entails.of_eq (hC fun g => roundState ER (hs (arg m ρ)) g 0)); iexact H1
  isplitl [H3]; · iapply (Entails.of_eq (hC fun g => at0 (F := F) g)); iexact H3
  isplitl [H2]; · iapply (Entails.of_eq (hC fun g => reached ER g 0)); iexact H2
  iapply (Entails.of_eq hT); iexact H4

/-- A device's counters under their invariants. -/
theorem under (c : Dev nD) :
    iprop(Pipeline.ownSems0 (Ix := Unit) (Name := ℕ) (U := UU) (Lvl := ℕ) (Val := Elt F) (τ := τ) osem c ∗ unscopedSems0 c ∗ share m ρ c)
      ⊢ |={Set.univ}=> iprop((bigSep Finset.univ fun k : Kind => iprop(∃ κ : ℕ, cellInv ER (hs (arg m ρ)) κ (cell c k)))
          ∗ (bigSep Finset.univ fun k : Kind => reached ER (cell c k) 0) ∗ (bigSep Finset.univ fun k : Kind => at0 (F := F) (cell c k)) ∗ toks (F := F) c) := by
  have h : iprop((bigSep Finset.univ fun k : Kind => semVal (cell c k) 0) ∗ bigSep Finset.univ fun k : Kind => roundState ER (hs (arg m ρ)) (cell c k) 0)
      ⊢ (|={Set.univ}=> bigSep Finset.univ fun k : Kind => iprop(∃ κ : ℕ, cellInv ER (hs (arg m ρ)) κ (cell c k)) : sProp 𝕄) := by
    rw [← bigSep_sep']
    exact (bigSep_mono fun k _ => (Rounds.body_intro ER (hs (arg m ρ)) (cell c k)).trans inv_alloc).trans (bigSep_fupd _ _)
  rw [← sems_eq] at h
  unfold share
  iintro ⟨H1, H2, H3, H4, H5, H6⟩
  imod h $$ [H1 H2 H3] with HI
  · isplitr [H3]
    · isplitl [H1] <;> iassumption
    · iexact H3
  imodintro
  isplitl [HI]; · iexact HI
  isplitl [H5]; · iexact H5
  isplitl [H4] <;> iassumption

theorem dealt_all :
    (bigSep Finset.univ fun c : Dev nD => iprop((bigSep Finset.univ fun k : Kind => iprop(∃ κ : ℕ, cellInv ER (hs (arg m ρ)) κ (cell c k)))
          ∗ (bigSep Finset.univ fun k : Kind => reached ER (cell c k) 0) ∗ (bigSep Finset.univ fun k : Kind => at0 (F := F) (cell c k)) ∗ toks (F := F) c) : sProp 𝕄)
      ⊢ bigSep Finset.univ (share' m ρ) := by
  have hh : iprop((bigSep Finset.univ fun c : Dev nD => bigSep Finset.univ fun k : Kind => at0 (F := F) (cell c k)) ∗ bigSep Finset.univ fun c : Dev nD => toks (F := F) c)
      = bigSep Finset.univ fun c : Dev nD => handles (F := F) c := by
    rw [toks_dealt, ← bigSep_sep']; rfl
  rw [bigSep_sep', bigSep_sep', bigSep_sep', hh,
    ← bigSep_univ_prod (fun ck : Dev nD × Kind => iprop(∃ κ : ℕ, cellInv ER (hs (arg m ρ)) κ (cell ck.1 ck.2))),
    ← bigSep_univ_prod (fun ck : Dev nD × Kind => (reached ER (cell ck.1 ck.2) 0 : sProp 𝕄))]
  iintro ⟨HI, #HR, HH⟩
  ihave HK := (BI.bigSep_exists_pi Finset.univ fun (ck : Dev nD × Kind) (κ : ℕ) => (cellInv ER (hs (arg m ρ)) κ (cell ck.1 ck.2) : sProp 𝕄)) $$ HI
  icases HK with ⟨%K, #HI⟩
  iapply (bigSep_with_persistent (R := iprop((bigSep Finset.univ fun ck : Dev nD × Kind => cellInv ER (hs (arg m ρ)) (K ck) (cell ck.1 ck.2))
      ∗ bigSep Finset.univ fun ck : Dev nD × Kind => reached ER (cell ck.1 ck.2) 0)) (Φ := fun c => handles (F := F) c) (Ψ := share' m ρ) fun c _ => by
    unfold share'
    iintro H; iexists K; iexact H)
  isplitr
  · isplitl; · iexact HI
    iexact HR
  · iexact HH

theorem all_under : (bigSep Finset.univ fun c => iprop(Pipeline.ownSems0 (Ix := Unit) (Name := ℕ) (U := UU) (Lvl := ℕ) (Val := Elt F) (τ := τ) osem c ∗ unscopedSems0 c ∗ share m ρ c) : sProp 𝕄)
    ⊢ |={Set.univ}=> bigSep Finset.univ (share' m ρ) :=
  ((bigSep_mono fun c _ => under m ρ c).trans (bigSep_fupd _ _)).trans (BI.fupd_mono (dealt_all m ρ))

/-! ## Into the launch and out of it -/

theorem to_start (c : Dev nD) :
    iprop(Pipeline.unscopedRestP Pipeline.Prefetch.none cfg0.spec c (fun b => m ((c : Thread nD τ).loc b)) ∗ levAts L lv
        ∗ Pipeline.launchCred allOwed c ∗ prngReg c (ρ c) ∗ share' m ρ c)
      ⊢ |={Set.univ}=> iprop(start m ρ c ∗ emp) := by
  unfold share'
  iintro ⟨-, Hl, Hc, -, ⟨%K, ⟨HI, HR⟩, HH⟩⟩
  ihave Hc := (creds_dealt (F := F) c) $$ Hc
  ihave Hd := (dealt (F := F) c) $$ [HH Hc]
  · isplitl [HH] <;> iassumption
  imodintro
  unfold start Env
  isplitl
  · iexists K
    isplitr [Hd]
    · isplitl [HI]; · iexact HI
      isplitl [HR] <;> iassumption
    · iexact Hd
  · iempintro

theorem to_before (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs]; · iexact Hs
  iapply (show iprop(∃ f : Buf (Elt F) ((c : Thread nD τ).loc cc0_scratch0), ((c : Thread nD τ).loc cc0_scratch0) ↦{fullShare} f : sProp 𝕄) ⊢ anyR (F := F) c Finset.univ from .rfl)
  iexact Hr

theorem from_after (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq]
  unfold after
  rw [← sems_eq]
  iintro ⟨⟨H1, H2⟩, Hr⟩
  isplitl [H2]; · iexact H2
  isplitl [H1]; · iexact H1
  iapply (show anyR (F := F) c Finset.univ ⊢ (iprop(∃ f : Buf (Elt F) ((c : Thread nD τ).loc cc0_scratch0), ((c : Thread nD τ).loc cc0_scratch0) ↦{fullShare} f) : sProp 𝕄) from .rfl)
  iexact Hr

theorem stage_waits (c : Dev nD) : (levAts L lv : sProp 𝕄) ⊢ Pipeline.cellsWaits cfgs (dats m ρ) () 0 c :=
  Pipeline.cellsWaits_intro cfgs (dats m ρ) () 0 c fun w s t =>
    mayWait_other c _ (by fin_cases w <;> fin_cases s <;> decide +kernel) _ (by
      rcases t with ⟨_ | _, ht⟩
      · exact Or.inl rfl
      · exact Or.inr rfl)

/-! ## The run -/

def final (c : Dev nD) (w : Fin cfg0.W) : Buf (Elt F) ((cfg0.win w).arr.view.loc (c : Thread nD τ)) := (dats m ρ 0 c).arrAt w cfg0.N

set_option maxRecDepth 65536 in
/-- Every fair execution on the eight devices ends with each array at its final contents and every counter at zero. -/
theorem run_main : θ_run defs (onTc (τ := τ) (main (F := F))) (init m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_ok m ρ) (hne := fun w => by fin_cases w <;> exact Nat.succ_pos _) (harr := arr_whole0) (hstage := stage_whole0) (hshare := share_full m ρ)
    (hdistinct := winFacts0.arr_inj)
    (O₀ := allOwed) (howed₀ := fun _ => rfl) (howedN := fun _ => rfl)
    (L := L) (lv := lv) (hL := L_of_ne) (hwaits := stage_waits m ρ)
    (G := share m ρ) (G' := share' m ρ) (u₀ := made)
    (hu₀ := by
      unfold made
      iintro Hu
      ihave H := (ownU_pair _ _) $$ Hu
      icases H with ⟨HP, HX⟩
      imod (shares_made m ρ) $$ HX with HG
      imodintro
      isplitl [HP] <;> iassumption)
    (hglob := all_under m ρ)
    (hA := fun _ _ => rfl) (hpf := fun _ k => k.elim0)
    (X := start m ρ) (Y := fun c => unscopedSems0 c) (Z := fun _ => iprop(emp))
    (hX := to_start m ρ) (hin := to_before m ρ) (hout := from_after m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it began, -/
theorem final_arg (c : Dev nD) : final m ρ c (0 : Fin 2) = m (win0_0.arr.view.loc (c : Thread nD τ)) :=
  (dats (F := F) m ρ 0 c).arrAt_in (0 : Fin 2) rfl _

end Cert.KernelProof

end
-- ==== Proof.Value.lean ====
/-
# The result as a sum over the devices

After the run a device's result array is `total` of the argument arrays, and its argument array is what it was. Read
over exact values, `total` is the sum of all eight devices' arguments: every row is some part's finished eighth, and
the three halvings of a part reach each device exactly once. The reference's reduction is the same sum.
-/
module

public import proofs.«01_k».proof.Proof.Launch
public import proofs.«01_k».proof.Proof.Gen.ReferenceIdeal.Run
public import Idealize.ShloMosaic.Lib.Pipeline.ValueKit
public import Idealize.ShloMosaic.Lib.Pointwise
public import Idealize.ShloMosaic.Lib.IdealHost
public import Idealize.ShloMosaic.Lib.Layout

@[expose] public section

noncomputable section

namespace Cert.KernelProof

open Cert.KernelIdeal Cert.KernelIdeal.Gen
open Idealize.ShloMosaic
open Idealize.ShloMosaic.TcCoe
open Idealize.SL Idealize.SL.Sem
open Idealize.ShloMosaic.Pipeline (Dat Cfg Window)

/-! ## The arrays after the run -/

section Arrays
variable {F : FTy → Type} [FloatOps F]
variable (m : (ℓ : Loc nD τ sig) → Buf (Elt F) ℓ) (ρ : Dev nD → PrngReg)

/-- The window on the argument is the whole argument. -/
theorem arg_eq (c : Dev nD) : arg m ρ c = m ((c : Thread nD τ).loc main_arg0) := by
  funext j
  show m ((c : Thread nD τ).loc main_arg0) ((win0_0.blk (0 : Fin 1)).view.emb j) = m ((c : Thread nD τ).loc main_arg0) j
  congr 1
  funext a
  refine Fin.ext ?_
  show ((win0_0.rect t0_0).emb j a : ℕ) = j a
  exact Window.rect_emb_val_of_index_zero win0_0 t0_0 a (by fin_cases a <;> decide +kernel) j

theorem final_out (c : Dev nD) : final m ρ c (1 : Fin 2) = total (arg m ρ) :=
  (dats m ρ 0 c).arrAt_eq_of_after_last (1 : Fin 2) t0_0 (by decide +kernel) _ fun j => rfl

/-- What the run leaves in a device's two arrays, and in its counters. -/
theorem run_arrays : θ_run defs (onTc (τ := τ) (main (F := F))) ⟨m, fun _ => 0, ρ⟩ (fun r =>
    (∀ c : Dev nD, r.2.mem ((c : Thread nD τ).loc main_v1) = total (fun d : Dev nD => m ((d : Thread nD τ).loc main_arg0))
      ∧ r.2.mem ((c : Thread nD τ).loc main_arg0) = m ((c : Thread nD τ).loc main_arg0)) ∧ r.2.sem = fun _ => 0) := by
  refine (θ_run defs _ _).mono (fun r h => ⟨fun c => ⟨?_, ?_⟩, h.2⟩) (run_main m ρ)
  · have e := (h.1 c (1 : Fin 2)).trans (final_out m ρ c)
    rw [show arg m ρ = fun d : Dev nD => m ((d : Thread nD τ).loc main_arg0) from funext (arg_eq m ρ)] at e
    exact e
  · exact (h.1 c (0 : Fin 2)).trans (final_arg m ρ c)

end Arrays

/-! ## Every row is held -/

theorem eighths_cover : ∀ q : Fin 512, ∃ pc : Fin 6 × Dev nD, keep3 pc.1 pc.2 ≤ 8 * q.val ∧ 8 * q.val + 8 ≤ keep3 pc.1 pc.2 + l3 pc.1 := by
  decide +kernel

theorem held_row (i : S4096x1024.Idx) : ∃ p c, i ∈ rows (keep3 p c) (l3 p) := by
  have hi : (i 0).val < 4096 := (i 0).isLt
  obtain ⟨⟨p, c⟩, h⟩ := eighths_cover ⟨(i 0).val / 8, by omega⟩
  refine ⟨p, c, mem_rows.2 ?_⟩
  dsimp only at h
  omega

/-! ## The sum -/

/-- The devices in the order in which a part's finished sum reaches them. -/
def reach (p : Fin 6) (c : Dev nD) : Fin 8 → Dev nD :=
  ![c, mate p 0 c, mate p 1 c, mate p 0 (mate p 1 c), mate p 2 c, mate p 0 (mate p 2 c), mate p 1 (mate p 2 c), mate p 0 (mate p 1 (mate p 2 c))]

theorem reach_bijective : ∀ (p : Fin 6) (c : Dev nD), Function.Bijective (reach p c) := by
  have h : ∀ (p : Fin 6) (c : Dev nD), Function.Injective (reach p c) := by decide +kernel
  exact fun p c => (Fintype.bijective_iff_injective_and_card _).2 ⟨h p c, rfl⟩

theorem sum3_eq_sum (X : Dev nD → Cont Ideal) (p : Fin 6) (c : Dev nD) (i : S4096x1024.Idx) :
    sum3 X p c i = ∑ d : Dev nD, (X d i : EReal) := by
  rw [← (reach_bijective p c).sum_comp fun d => (X d i : EReal), Fin.sum_univ_eight]
  show (((X c i + X (mate p 0 c) i) + (X (mate p 1 c) i + X (mate p 0 (mate p 1 c)) i))
    + ((X (mate p 2 c) i + X (mate p 0 (mate p 2 c)) i) + (X (mate p 1 (mate p 2 c)) i + X (mate p 0 (mate p 1 (mate p 2 c))) i)) : EReal)
    = X c i + X (mate p 0 c) i + X (mate p 1 c) i + X (mate p 0 (mate p 1 c)) i
      + X (mate p 2 c) i + X (mate p 0 (mate p 2 c)) i + X (mate p 1 (mate p 2 c)) i + X (mate p 0 (mate p 1 (mate p 2 c))) i
  simp only [add_assoc]

theorem total_eq_sum (X : Dev nD → Cont Ideal) (i : S4096x1024.Idx) : total X i = ∑ d : Dev nD, (X d i : EReal) := by
  obtain ⟨p, c, h⟩ := held_row i
  rw [total_eq X h, sum3_eq_sum]

/-! ## The reference -/

/-- The reference's result, of the whole argument: the eight slabs of 4096 rows added up. -/
def slabs (x : Cert.ReferenceIdeal.S32768x1024.Idx → EReal) : Cont Ideal := fun i =>
  ∑ d : Dev nD, Layout.block (⟨2, ![4096, 1024]⟩ : Shape) ⟨2, ![32768, 1024]⟩ 0 8 d x (by decide) i

theorem reference_eq (x : FVec Ideal Cert.ReferenceIdeal.S32768x1024 .f32) :
    Host.reduceAdd (shapeCast Cert.ReferenceIdeal.S8x4096x1024 x Cert.ReferenceIdeal.Gen.shapeCasts_S32768x1024_S8x4096x1024)
      (constant (F := Ideal) Cert.ReferenceIdeal.S_ .f32 0x00000000#32) Cert.ReferenceIdeal.Gen.reducesTo_S8x4096x1024_S4096x1024_d0 Cert.ReferenceIdeal.Gen.h_S_ = slabs x := by
  funext i
  rw [ValueIdx.hostReduceAdd_apply, Ideal.hostReduceAdd_r3_a0]
  refine (congrArg₂ (fun a b : EReal => a + b) Ideal.ofBits_zero_f32 rfl).trans ((zero_add _).trans ?_)
  refine Finset.sum_congr rfl fun d _ => ?_
  refine shapeCast_apply _ _ _ _ ?_
  rw [Shape.rowMajor_val_two, Shape.rowMajor_val_three]
  have h : Layout.Tiles (⟨2, ![4096, 1024]⟩ : Shape) ⟨2, ![32768, 1024]⟩ 0 8 := by decide
  exact congrArg₂ (fun a b => a * 1024 + b) ((h.idx_val d i 0).trans (if_pos rfl)) ((h.idx_val d i 1).trans (if_neg (show ¬(1 : ℕ) = 0 by decide)))

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Over any reading of the floats every fair execution ends with the arguments unchanged and every counter at zero. -/
theorem frame_text {F : FTy → Type} [FloatOps F] (m : (ℓ : Loc Cert.KernelIdeal.nD Cert.KernelIdeal.τ Cert.KernelIdeal.sig) → Buf (Elt F) ℓ) (g : Dev Cert.KernelIdeal.nD → PrngReg) :
    θ_run Cert.KernelIdeal.defs (onTc (τ := Cert.KernelIdeal.τ) (Cert.KernelIdeal.main (F := F))) ⟨m, fun _ => 0, g⟩ (fun r =>
      (∀ c : Dev Cert.KernelIdeal.nD, r.2.mem (c.tc.loc Cert.KernelIdeal.main_arg0) = m (c.tc.loc Cert.KernelIdeal.main_arg0)) ∧ r.2.sem = fun _ => 0) :=
  (θ_run Cert.KernelIdeal.defs _ _).mono (fun _ h => ⟨fun c => (h.1 c).2, h.2⟩) (Cert.KernelProof.run_arrays (F := F) m g)

set_option maxRecDepth 65536 in
set_option smartUnfolding false in
/-- The kernel's frame: its text is the one the run is proved of, read over bit patterns. -/
theorem frame_kernel : Cert.quiescent_Kernel := fun m g _ => frame_text (F := Bits) m g

theorem frame_ideal : Cert.quiescent_KernelIdeal := fun m g _ => frame_text (F := Ideal) m g

theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Both programs end with the sum of the eight slabs: the kernel on every device, the reference on its one. -/
theorem value : Cert.algebraic_KernelIdeal_ReferenceIdeal := fun m g m' g' _ hx => by
  refine ⟨Cert.KernelProof.slabs (m' ((0 : Dev Cert.ReferenceIdeal.nD).tc.loc Cert.ReferenceIdeal.main_arg0)), ?_, ?_⟩
  · refine (θ_run Cert.KernelIdeal.defs _ _).mono (fun r h c => ⟨(h.1 c).1.trans ?_, (h.1 c).2⟩) (Cert.KernelProof.run_arrays (F := Ideal) m g)
    funext i
    rw [Cert.KernelProof.total_eq_sum]
    exact Finset.sum_congr rfl fun d _ => congrFun (hx d) i
  · exact (θ_run Cert.ReferenceIdeal.defs _ _).mono (fun r h => ⟨(h 0).1.trans (Cert.KernelProof.reference_eq _), (h 0).2⟩)
      (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, value⟩

end Cert.Proof

end
